-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x256 : Shape := ⟨2, ![512, 256]⟩
abbrev S2x128x32x64 : Shape := ⟨4, ![2, 128, 32, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x128x32x64 : S_.BroadcastsInDim S2x128x32x64 (![] : Fin 0 → Fin S2x128x32x64.rank)
  reducesTo_S2x128x32x64_S_d0_1_2_3 : S2x128x32x64.ReducesTo [0, 1, 2, 3] S_

variable [Facts]

def fn {F : FTy → Type} [FloatOps F] (main_arg0 : FVec F S2x128x512 .f32) (main_arg1 : FVec F S512x256 .f32) (main_arg2 : FVec F S2x128x32x64 .f32) (main_arg3 : FVec F S2x128x32x64 .f32) (main_arg4 : FVec F S256x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x128x32x64 .f32 := Host.absf main_arg2
  let main_cst_2 : FVec F S_ .f32 := constant S_ .f32 0x7F800000#32
  let main_v10 : FVec F S2x128x32x64 .f32 := broadcastInDim S2x128x32x64 ![] bcast_S_S2x128x32x64 main_cst_2
  let main_v11 : IVec S2x128x32x64 1 := cmpf .olt main_v9 main_v10
  let main_c_3 : IVec S_ 1 := constantI S_ 1 1#1
  let main_v12 : IVec S_ 1 := (fun x v => Host.reduce IntOp.andi x v reducesTo_S2x128x32x64_S_d0_1_2_3 h_S_) main_v11 main_c_3
  let main_v13 : IVec S_ 1 := andi main_v8 main_v12
  main_v13
-- ==== Pre_finite_ReferenceIdeal.lean ====
abbrev S2x128x512 : Shape := ⟨3, ![2, 128, 512]⟩
abbrev S512x2048 : Shape := ⟨2, ![512, 2048]⟩
abbrev S2x128x32x64 : Shape := ⟨4, ![2, 128, 32, 64]⟩
abbrev S2048x512 : Shape := ⟨2, ![2048, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S2x128x32x64 : S_.BroadcastsInDim S2x128x32x64 (![] : Fin 0 → Fin S2x128x32x64.rank)
  reducesTo_S2x128x32x64_S_d0_1_2_3 : S2x128x32x64.ReducesTo [0, 1, 2, 3] S_

variable [Facts]

def fn {F : FTy → Type} [FloatOps F] (main_arg0 : FVec F S2x128x512 .f32) (main_arg1 : FVec F S512x2048 .f32) (main_arg2 : FVec F S2x128x32x64 .f32) (main_arg3 : FVec F S2x128x32x64 .f32) (main_arg4 : FVec F S2048x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S2x128x32x64 .f32 := Host.absf main_arg2
  let main_cst_2 : FVec F S_ .f32 := constant S_ .f32 0x7F800000#32
  let main_v10 : FVec F S2x128x32x64 .f32 := broadcastInDim S2x128x32x64 ![] bcast_S_S2x128x32x64 main_cst_2
  let main_v11 : IVec S2x128x32x64 1 := cmpf .olt main_v9 main_v10
  let main_c_3 : IVec S_ 1 := constantI S_ 1 1#1
  let main_v12 : IVec S_ 1 := (fun x v => Host.reduce IntOp.andi x v reducesTo_S2x128x32x64_S_d0_1_2_3 h_S_) main_v11 main_c_3
  let main_v13 : IVec S_ 1 := andi main_v8 main_v12
  main_v13
-- ==== Kernel.lean ====
abbrev S2x128x512 : Shape := ⟨3, ![2, 128, 512]⟩
abbrev S512x256 : Shape := ⟨2, ![512, 256]⟩
abbrev S2x128x32x64 : Shape := ⟨4, ![2, 128, 32, 64]⟩
abbrev S256x512 : Shape := ⟨2, ![256, 512]⟩
abbrev S_ : Shape := ⟨0, ![]⟩
abbrev S2x128x4x64 : Shape := ⟨4, ![2, 128, 4, 64]⟩
abbrev S7x32x512 : Shape := ⟨3, ![7, 32, 512]⟩
abbrev S32x512 : Shape := ⟨2, ![32, 512]⟩
abbrev S7x2 : Shape := ⟨2, ![7, 2]⟩
abbrev S256x256 : Shape := ⟨2, ![256, 256]⟩
abbrev S128x128 : Shape := ⟨2, ![128, 128]⟩
abbrev S128x64 : Shape := ⟨2, ![128, 64]⟩
abbrev S1x128x1x64 : Shape := ⟨4, ![1, 128, 1, 64]⟩
abbrev S128 : Shape := ⟨1, ![128]⟩
abbrev S128x1 : Shape := ⟨2, ![128, 1]⟩
abbrev S128x256 : Shape := ⟨2, ![128, 256]⟩
abbrev S1x1 : Shape := ⟨2, ![1, 1]⟩
abbrev S1x16x512 : Shape := ⟨3, ![1, 16, 512]⟩
abbrev S16x512 : Shape := ⟨2, ![16, 512]⟩

abbrev nBuf : Space → Nat
  | .hbm => 34
  | .vmem => 10
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S2x128x32x64, .f32⟩
  | .hbm, ⟨3, _⟩ => ⟨S2x128x32x64, .f32⟩
  | .hbm, ⟨4, _⟩ => ⟨S256x512, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x128x4x64, .f32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x128x4x64, .f32⟩
  | .hbm, ⟨33, _⟩ => ⟨S2x128x512, .f32⟩
  | .local _ .vmem, ⟨0, _⟩ => ⟨S2x128x512, .f32⟩
  | .local _ .vmem, ⟨1, _⟩ => ⟨S512x256, .f32⟩
  | .local _ .vmem, ⟨2, _⟩ => ⟨S2x128x4x64, .f32⟩
  | .local _ .vmem, ⟨3, _⟩ => ⟨S2x128x4x64, .f32⟩
  | .local _ .vmem, ⟨4, _⟩ => ⟨S256x512, .f32⟩
  | .local _ .vmem, ⟨5, _⟩ => ⟨S2x128x512, .f32⟩
  | .local _ .vmem, ⟨6, _⟩ => ⟨S256x512, .bf16⟩
  | .local _ .vmem, ⟨7, _⟩ => ⟨S7x32x512, .bf16⟩
  | .local _ .vmem, ⟨8, _⟩ => ⟨S32x512, .bf16⟩
  | .local _ .vmem, ⟨9, _⟩ => ⟨S7x32x512, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  (ofTc nBuf bufTy 1 62 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c2_i32_157 : BitVec 32) (c0_i32_160 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v250 : BitVec 32 := Scalar.addi v2 c2_i32_157
  let c8_i32_158 : BitVec 32 := 8#32
  let v251 : BitVec 32 := Scalar.remsi v250 c8_i32_158
  let c32_i32_159 : BitVec 32 := 32#32
  let v252 : BitVec 32 := Scalar.muli v251 c32_i32_159
  let v253 : BitVec 32 := Scalar.addi v252 c0_i32_160
  let c0_i32_242 : BitVec 32 := 0#32
  ![v253.toNat, 0]
def k0_dev8 (d0 : Dev nD) : Nat :=
  let c0_i32_239 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_157 : BitVec 32 := 2#32
  let v250 : BitVec 32 := Scalar.addi v2 c2_i32_157
  let c8_i32_158 : BitVec 32 := 8#32
  let v251 : BitVec 32 := Scalar.remsi v250 c8_i32_158
  let c1_i32_238 : BitVec 32 := 1#32
  let v326 : BitVec 32 := Scalar.muli v251 c1_i32_238
  let v327 : BitVec 32 := Scalar.addi c0_i32_239 v326
  v327.toNat
def k0_dev9 (d0 : Dev nD) : Nat :=
  let c0_i32_249 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_189 : BitVec 32 := 6#32
  let v282 : BitVec 32 := Scalar.addi v2 c6_i32_189
  let c8_i32_190 : BitVec 32 := 8#32
  let v283 : BitVec 32 := Scalar.remsi v282 c8_i32_190
  let c1_i32_248 : BitVec 32 := 1#32
  let v335 : BitVec 32 := Scalar.muli v283 c1_i32_248
  let v336 : BitVec 32 := Scalar.addi c0_i32_249 v335
  v336.toNat
def k0_dev10 (d0 : Dev nD) : Nat :=
  let c0_i32_259 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_151 : BitVec 32 := 1#32
  let v242 : BitVec 32 := Scalar.addi v2 c1_i32_151
  let c8_i32_152 : BitVec 32 := 8#32
  let v243 : BitVec 32 := Scalar.remsi v242 c8_i32_152
  let c1_i32_258 : BitVec 32 := 1#32
  let v344 : BitVec 32 := Scalar.muli v243 c1_i32_258
  let v345 : BitVec 32 := Scalar.addi c0_i32_259 v344
  v345.toNat
def k0_dev11 (d0 : Dev nD) : Nat :=
  let c0_i32_269 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_165 : BitVec 32 := 3#32
  let v258 : BitVec 32 := Scalar.addi v2 c3_i32_165
  let c8_i32_166 : BitVec 32 := 8#32
  let v259 : BitVec 32 := Scalar.remsi v258 c8_i32_166
  let c1_i32_268 : BitVec 32 := 1#32
  let v353 : BitVec 32 := Scalar.muli v259 c1_i32_268
  let v354 : BitVec 32 := Scalar.addi c0_i32_269 v353
  v354.toNat
def k0_dev12 (d0 : Dev nD) : Nat :=
  let c0_i32_279 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_181 : BitVec 32 := 5#32
  let v274 : BitVec 32 := Scalar.addi v2 c5_i32_181
  let c8_i32_182 : BitVec 32 := 8#32
  let v275 : BitVec 32 := Scalar.remsi v274 c8_i32_182
  let c1_i32_278 : BitVec 32 := 1#32
  let v362 : BitVec 32 := Scalar.muli v275 c1_i32_278
  let v363 : BitVec 32 := Scalar.addi c0_i32_279 v362
  v363.toNat
def k0_dev13 (d0 : Dev nD) : Nat :=
  let c0_i32_289 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_197 : BitVec 32 := 7#32
  let v290 : BitVec 32 := Scalar.addi v2 c7_i32_197
  let c8_i32_198 : BitVec 32 := 8#32
  let v291 : BitVec 32 := Scalar.remsi v290 c8_i32_198
  let c1_i32_288 : BitVec 32 := 1#32
  let v371 : BitVec 32 := Scalar.muli v291 c1_i32_288
  let v372 : BitVec 32 := Scalar.addi c0_i32_289 v371
  v372.toNat
def k0_dev14 (d0 : Dev nD) : Nat :=
  let c0_i32_299 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_173 : BitVec 32 := 4#32
  let v266 : BitVec 32 := Scalar.addi v2 c4_i32_173
  let c8_i32_174 : BitVec 32 := 8#32
  let v267 : BitVec 32 := Scalar.remsi v266 c8_i32_174
  let c1_i32_298 : BitVec 32 := 1#32
  let v380 : BitVec 32 := Scalar.muli v267 c1_i32_298
  let v381 : BitVec 32 := Scalar.addi c0_i32_299 v380
  v381.toNat
def k0_dev15 (d0 : Dev nD) : Nat :=
  let c0_i32_309 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_161 : BitVec 32 := 2#32
  let v254 : BitVec 32 := Scalar.addi v2 c2_i32_161
  let c8_i32_162 : BitVec 32 := 8#32
  let v255 : BitVec 32 := Scalar.remsi v254 c8_i32_162
  let c1_i32_308 : BitVec 32 := 1#32
  let v389 : BitVec 32 := Scalar.muli v255 c1_i32_308
  let v390 : BitVec 32 := Scalar.addi c0_i32_309 v389
  v390.toNat
def k0_dev16 (d0 : Dev nD) : Nat :=
  let c0_i32_319 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_193 : BitVec 32 := 6#32
  let v286 : BitVec 32 := Scalar.addi v2 c6_i32_193
  let c8_i32_194 : BitVec 32 := 8#32
  let v287 : BitVec 32 := Scalar.remsi v286 c8_i32_194
  let c1_i32_318 : BitVec 32 := 1#32
  let v398 : BitVec 32 := Scalar.muli v287 c1_i32_318
  let v399 : BitVec 32 := Scalar.addi c0_i32_319 v398
  v399.toNat
def k0_dev17 (d0 : Dev nD) : Nat :=
  let c0_i32_329 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_154 : BitVec 32 := 1#32
  let v246 : BitVec 32 := Scalar.addi v2 c1_i32_154
  let c8_i32_155 : BitVec 32 := 8#32
  let v247 : BitVec 32 := Scalar.remsi v246 c8_i32_155
  let c1_i32_328 : BitVec 32 := 1#32
  let v407 : BitVec 32 := Scalar.muli v247 c1_i32_328
  let v408 : BitVec 32 := Scalar.addi c0_i32_329 v407
  v408.toNat
def k0_dev18 (d0 : Dev nD) : Nat :=
  let c0_i32_339 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_169 : BitVec 32 := 3#32
  let v262 : BitVec 32 := Scalar.addi v2 c3_i32_169
  let c8_i32_170 : BitVec 32 := 8#32
  let v263 : BitVec 32 := Scalar.remsi v262 c8_i32_170
  let c1_i32_338 : BitVec 32 := 1#32
  let v416 : BitVec 32 := Scalar.muli v263 c1_i32_338
  let v417 : BitVec 32 := Scalar.addi c0_i32_339 v416
  v417.toNat
def k0_dev19 (d0 : Dev nD) : Nat :=
  let c0_i32_349 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_185 : BitVec 32 := 5#32
  let v278 : BitVec 32 := Scalar.addi v2 c5_i32_185
  let c8_i32_186 : BitVec 32 := 8#32
  let v279 : BitVec 32 := Scalar.remsi v278 c8_i32_186
  let c1_i32_348 : BitVec 32 := 1#32
  let v425 : BitVec 32 := Scalar.muli v279 c1_i32_348
  let v426 : BitVec 32 := Scalar.addi c0_i32_349 v425
  v426.toNat
def k0_dev20 (d0 : Dev nD) : Nat :=
  let c0_i32_359 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_201 : BitVec 32 := 7#32
  let v294 : BitVec 32 := Scalar.addi v2 c7_i32_201
  let c8_i32_202 : BitVec 32 := 8#32
  let v295 : BitVec 32 := Scalar.remsi v294 c8_i32_202
  let c1_i32_358 : BitVec 32 := 1#32
  let v434 : BitVec 32 := Scalar.muli v295 c1_i32_358
  let v435 : BitVec 32 := Scalar.addi c0_i32_359 v434
  v435.toNat
def k0_dev21 (d0 : Dev nD) : Nat :=
  let c0_i32_369 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_177 : BitVec 32 := 4#32
  let v270 : BitVec 32 := Scalar.addi v2 c4_i32_177
  let c8_i32_178 : BitVec 32 := 8#32
  let v271 : BitVec 32 := Scalar.remsi v270 c8_i32_178
  let c1_i32_368 : BitVec 32 := 1#32
  let v443 : BitVec 32 := Scalar.muli v271 c1_i32_368
  let v444 : BitVec 32 := Scalar.addi c0_i32_369 v443
  v444.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_373 : BitVec 32 := 32#32
  let v452 : BitVec 32 := Scalar.muli v2 c32_i32_373
  let v453 : Index := Scalar.indexCast v452
  let c0_374 : Index := 0#32
  ![v453.toNat, 0]
def k0_dev22 (d0 : Dev nD) : Nat :=
  let c0_i32_471 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_209 : BitVec 32 := 2#32
  let v302 : BitVec 32 := Scalar.addi v2 c2_i32_209
  let c8_i32_210 : BitVec 32 := 8#32
  let v303 : BitVec 32 := Scalar.remsi v302 c8_i32_210
  let c1_i32_470 : BitVec 32 := 1#32
  let v537 : BitVec 32 := Scalar.muli v303 c1_i32_470
  let v538 : BitVec 32 := Scalar.addi c0_i32_471 v537
  v538.toNat
def k0_dev23 (d0 : Dev nD) : Nat :=
  let c0_i32_482 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_225 : BitVec 32 := 6#32
  let v318 : BitVec 32 := Scalar.addi v2 c6_i32_225
  let c8_i32_226 : BitVec 32 := 8#32
  let v319 : BitVec 32 := Scalar.remsi v318 c8_i32_226
  let c1_i32_481 : BitVec 32 := 1#32
  let v546 : BitVec 32 := Scalar.muli v319 c1_i32_481
  let v547 : BitVec 32 := Scalar.addi c0_i32_482 v546
  v547.toNat
def k0_dev24 (d0 : Dev nD) : Nat :=
  let c0_i32_493 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_205 : BitVec 32 := 1#32
  let v298 : BitVec 32 := Scalar.addi v2 c1_i32_205
  let c8_i32_206 : BitVec 32 := 8#32
  let v299 : BitVec 32 := Scalar.remsi v298 c8_i32_206
  let c1_i32_492 : BitVec 32 := 1#32
  let v555 : BitVec 32 := Scalar.muli v299 c1_i32_492
  let v556 : BitVec 32 := Scalar.addi c0_i32_493 v555
  v556.toNat
def k0_dev25 (d0 : Dev nD) : Nat :=
  let c0_i32_504 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_213 : BitVec 32 := 3#32
  let v306 : BitVec 32 := Scalar.addi v2 c3_i32_213
  let c8_i32_214 : BitVec 32 := 8#32
  let v307 : BitVec 32 := Scalar.remsi v306 c8_i32_214
  let c1_i32_503 : BitVec 32 := 1#32
  let v564 : BitVec 32 := Scalar.muli v307 c1_i32_503
  let v565 : BitVec 32 := Scalar.addi c0_i32_504 v564
  v565.toNat
def k0_dev26 (d0 : Dev nD) : Nat :=
  let c0_i32_515 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_221 : BitVec 32 := 5#32
  let v314 : BitVec 32 := Scalar.addi v2 c5_i32_221
  let c8_i32_222 : BitVec 32 := 8#32
  let v315 : BitVec 32 := Scalar.remsi v314 c8_i32_222
  let c1_i32_514 : BitVec 32 := 1#32
  let v573 : BitVec 32 := Scalar.muli v315 c1_i32_514
  let v574 : BitVec 32 := Scalar.addi c0_i32_515 v573
  v574.toNat
def k0_dev27 (d0 : Dev nD) : Nat :=
  let c0_i32_526 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_229 : BitVec 32 := 7#32
  let v322 : BitVec 32 := Scalar.addi v2 c7_i32_229
  let c8_i32_230 : BitVec 32 := 8#32
  let v323 : BitVec 32 := Scalar.remsi v322 c8_i32_230
  let c1_i32_525 : BitVec 32 := 1#32
  let v582 : BitVec 32 := Scalar.muli v323 c1_i32_525
  let v583 : BitVec 32 := Scalar.addi c0_i32_526 v582
  v583.toNat
def k0_dev28 (d0 : Dev nD) : Nat :=
  let c0_i32_537 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_217 : BitVec 32 := 4#32
  let v310 : BitVec 32 := Scalar.addi v2 c4_i32_217
  let c8_i32_218 : BitVec 32 := 8#32
  let v311 : BitVec 32 := Scalar.remsi v310 c8_i32_218
  let c1_i32_536 : BitVec 32 := 1#32
  let v591 : BitVec 32 := Scalar.muli v311 c1_i32_536
  let v592 : BitVec 32 := Scalar.addi c0_i32_537 v591
  v592.toNat
def k0_off3 (d0 : Dev nD) (c0_i32_551 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_543 : BitVec 32 := 0#32
  let v602 : BitVec 1 := Scalar.cmpi .sgt v2 c0_i32_543
  let v603 : BitVec 32 := Scalar.extui v602
  let c0_i32_544 : BitVec 32 := 0#32
  let v604 : BitVec 1 := Scalar.cmpi .slt v2 c0_i32_544
  let v605 : BitVec 32 := Scalar.extui v604
  let v606 : BitVec 32 := Scalar.subi v603 v605
  let c4_i32_542 : BitVec 32 := 4#32
  let c0_i32_545 : BitVec 32 := 0#32
  let v607 : BitVec 1 := Scalar.cmpi .sgt c4_i32_542 c0_i32_545
  let v608 : BitVec 32 := Scalar.extui v607
  let c0_i32_546 : BitVec 32 := 0#32
  let v609 : BitVec 1 := Scalar.cmpi .slt c4_i32_542 c0_i32_546
  let v610 : BitVec 32 := Scalar.extui v609
  let v611 : BitVec 32 := Scalar.subi v608 v610
  let v612 : BitVec 1 := Scalar.cmpi .ne v606 v611
  let v613 : BitVec 32 := Scalar.remsi v2 c4_i32_542
  let c0_i32_547 : BitVec 32 := 0#32
  let v614 : BitVec 1 := Scalar.cmpi .ne v613 c0_i32_547
  let v615 : BitVec 1 := Scalar.andi v612 v614
  let v601 : BitVec 32 := Scalar.divsi v2 c4_i32_542
  let c1_i32_548 : BitVec 32 := 1#32
  let v616 : BitVec 32 := Scalar.subi v601 c1_i32_548
  let v617 : BitVec 32 := Scalar.select v615 v616 v601
  let v621 : Index := Scalar.indexCast v617
  let c4_i32_549 : BitVec 32 := 4#32
  let v618 : BitVec 32 := Scalar.remsi v2 c4_i32_549
  let c32_i32_550 : BitVec 32 := 32#32
  let v619 : BitVec 32 := Scalar.muli v618 c32_i32_550
  let v620 : BitVec 32 := Scalar.addi v619 c0_i32_551
  let v622 : Index := Scalar.indexCast v620
  let c0_552 : Index := 0#32
  ![v621.toNat, v622.toNat, 0]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_553 : BitVec 32 := 32#32
  let v624 : BitVec 32 := Scalar.muli v2 c32_i32_553
  let c16_i32_554 : BitVec 32 := 16#32
  let v625 : BitVec 32 := Scalar.addi v624 c16_i32_554
  let v626 : Index := Scalar.indexCast v625
  let c0_555 : Index := 0#32
  ![v626.toNat, 0]
def k0_dev29 (d0 : Dev nD) : Nat :=
  let c0_i32_654 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_211 : BitVec 32 := 2#32
  let v304 : BitVec 32 := Scalar.addi v2 c2_i32_211
  let c8_i32_212 : BitVec 32 := 8#32
  let v305 : BitVec 32 := Scalar.remsi v304 c8_i32_212
  let c1_i32_653 : BitVec 32 := 1#32
  let v710 : BitVec 32 := Scalar.muli v305 c1_i32_653
  let v711 : BitVec 32 := Scalar.addi c0_i32_654 v710
  v711.toNat
def k0_dev30 (d0 : Dev nD) : Nat :=
  let c0_i32_665 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_227 : BitVec 32 := 6#32
  let v320 : BitVec 32 := Scalar.addi v2 c6_i32_227
  let c8_i32_228 : BitVec 32 := 8#32
  let v321 : BitVec 32 := Scalar.remsi v320 c8_i32_228
  let c1_i32_664 : BitVec 32 := 1#32
  let v719 : BitVec 32 := Scalar.muli v321 c1_i32_664
  let v720 : BitVec 32 := Scalar.addi c0_i32_665 v719
  v720.toNat
def k0_dev31 (d0 : Dev nD) : Nat :=
  let c0_i32_676 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_207 : BitVec 32 := 1#32
  let v300 : BitVec 32 := Scalar.addi v2 c1_i32_207
  let c8_i32_208 : BitVec 32 := 8#32
  let v301 : BitVec 32 := Scalar.remsi v300 c8_i32_208
  let c1_i32_675 : BitVec 32 := 1#32
  let v728 : BitVec 32 := Scalar.muli v301 c1_i32_675
  let v729 : BitVec 32 := Scalar.addi c0_i32_676 v728
  v729.toNat
def k0_dev32 (d0 : Dev nD) : Nat :=
  let c0_i32_687 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_215 : BitVec 32 := 3#32
  let v308 : BitVec 32 := Scalar.addi v2 c3_i32_215
  let c8_i32_216 : BitVec 32 := 8#32
  let v309 : BitVec 32 := Scalar.remsi v308 c8_i32_216
  let c1_i32_686 : BitVec 32 := 1#32
  let v737 : BitVec 32 := Scalar.muli v309 c1_i32_686
  let v738 : BitVec 32 := Scalar.addi c0_i32_687 v737
  v738.toNat
def k0_dev33 (d0 : Dev nD) : Nat :=
  let c0_i32_698 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_223 : BitVec 32 := 5#32
  let v316 : BitVec 32 := Scalar.addi v2 c5_i32_223
  let c8_i32_224 : BitVec 32 := 8#32
  let v317 : BitVec 32 := Scalar.remsi v316 c8_i32_224
  let c1_i32_697 : BitVec 32 := 1#32
  let v746 : BitVec 32 := Scalar.muli v317 c1_i32_697
  let v747 : BitVec 32 := Scalar.addi c0_i32_698 v746
  v747.toNat
def k0_dev34 (d0 : Dev nD) : Nat :=
  let c0_i32_709 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_231 : BitVec 32 := 7#32
  let v324 : BitVec 32 := Scalar.addi v2 c7_i32_231
  let c8_i32_232 : BitVec 32 := 8#32
  let v325 : BitVec 32 := Scalar.remsi v324 c8_i32_232
  let c1_i32_708 : BitVec 32 := 1#32
  let v755 : BitVec 32 := Scalar.muli v325 c1_i32_708
  let v756 : BitVec 32 := Scalar.addi c0_i32_709 v755
  v756.toNat
def k0_dev35 (d0 : Dev nD) : Nat :=
  let c0_i32_720 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_219 : BitVec 32 := 4#32
  let v312 : BitVec 32 := Scalar.addi v2 c4_i32_219
  let c8_i32_220 : BitVec 32 := 8#32
  let v313 : BitVec 32 := Scalar.remsi v312 c8_i32_220
  let c1_i32_719 : BitVec 32 := 1#32
  let v764 : BitVec 32 := Scalar.muli v313 c1_i32_719
  let v765 : BitVec 32 := Scalar.addi c0_i32_720 v764
  v765.toNat
def k0_off5 (d0 : Dev nD) (c4_i32_747 : BitVec 32) (c0_i32_762 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v804 : BitVec 32 := Scalar.subi v2 c4_i32_747
  let c8_i32_748 : BitVec 32 := 8#32
  let v805 : BitVec 32 := Scalar.addi v804 c8_i32_748
  let c8_i32_749 : BitVec 32 := 8#32
  let v806 : BitVec 32 := Scalar.remsi v805 c8_i32_749
  let c0_i32_754 : BitVec 32 := 0#32
  let v812 : BitVec 1 := Scalar.cmpi .sgt v806 c0_i32_754
  let v813 : BitVec 32 := Scalar.extui v812
  let c0_i32_755 : BitVec 32 := 0#32
  let v814 : BitVec 1 := Scalar.cmpi .slt v806 c0_i32_755
  let v815 : BitVec 32 := Scalar.extui v814
  let v816 : BitVec 32 := Scalar.subi v813 v815
  let c4_i32_753 : BitVec 32 := 4#32
  let c0_i32_756 : BitVec 32 := 0#32
  let v817 : BitVec 1 := Scalar.cmpi .sgt c4_i32_753 c0_i32_756
  let v818 : BitVec 32 := Scalar.extui v817
  let c0_i32_757 : BitVec 32 := 0#32
  let v819 : BitVec 1 := Scalar.cmpi .slt c4_i32_753 c0_i32_757
  let v820 : BitVec 32 := Scalar.extui v819
  let v821 : BitVec 32 := Scalar.subi v818 v820
  let v822 : BitVec 1 := Scalar.cmpi .ne v816 v821
  let v823 : BitVec 32 := Scalar.remsi v806 c4_i32_753
  let c0_i32_758 : BitVec 32 := 0#32
  let v824 : BitVec 1 := Scalar.cmpi .ne v823 c0_i32_758
  let v825 : BitVec 1 := Scalar.andi v822 v824
  let v811 : BitVec 32 := Scalar.divsi v806 c4_i32_753
  let c1_i32_759 : BitVec 32 := 1#32
  let v826 : BitVec 32 := Scalar.subi v811 c1_i32_759
  let v827 : BitVec 32 := Scalar.select v825 v826 v811
  let v831 : Index := Scalar.indexCast v827
  let c4_i32_760 : BitVec 32 := 4#32
  let v828 : BitVec 32 := Scalar.remsi v806 c4_i32_760
  let c32_i32_761 : BitVec 32 := 32#32
  let v829 : BitVec 32 := Scalar.muli v828 c32_i32_761
  let v830 : BitVec 32 := Scalar.addi v829 c0_i32_762
  let v832 : Index := Scalar.indexCast v830
  let c0_763 : Index := 0#32
  ![v831.toNat, v832.toNat, 0]
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x128x512 : Shape := ⟨3, ![2, 128, 512]⟩
abbrev S512x2048 : Shape := ⟨2, ![512, 2048]⟩
abbrev S2x128x32x64 : Shape := ⟨4, ![2, 128, 32, 64]⟩
abbrev S2048x512 : Shape := ⟨2, ![2048, 512]⟩
abbrev S2x128x2048 : Shape := ⟨3, ![2, 128, 2048]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S2x32x128x128 : Shape := ⟨4, ![2, 32, 128, 128]⟩
abbrev S1x1x128x128 : Shape := ⟨4, ![1, 1, 128, 128]⟩
abbrev S2x32x128 : Shape := ⟨3, ![2, 32, 128]⟩
abbrev S2x32x128x1 : Shape := ⟨4, ![2, 32, 128, 1]⟩
abbrev S1x1x128x1 : Shape := ⟨4, ![1, 1, 128, 1]⟩
abbrev S2x32x64x128 : Shape := ⟨4, ![2, 32, 64, 128]⟩

abbrev nBuf : Space → Nat
  | .hbm => 137
  | .vmem => 0
  | .smem => 0
  | _ => 0

abbrev hbmTy0_0 (i : Nat) : BufTy := match i % 128 with
  | 0 => ⟨S2x128x512, .f32⟩
  | 1 => ⟨S512x2048, .f32⟩
  | 2 => ⟨S2x128x32x64, .f32⟩
  | 3 => ⟨S2x128x32x64, .f32⟩
  | 4 => ⟨S2048x512, .f32⟩
  | 5 => ⟨S2x128x2048, .f32⟩
  | 6 => ⟨S2x128x32x64, .f32⟩
  | 7 => ⟨S128, .i32⟩
  | 8 => ⟨S_, .i32⟩
  | 9 => ⟨S_, .i32⟩
  | 10 => ⟨S128, .i32⟩
  | 11 => ⟨S128, .i32⟩
  | 12 => ⟨S128, .i32⟩
  | 13 => ⟨S_, .i32⟩
  | 14 => ⟨S128, .i32⟩
  | 15 => ⟨S128, .i1⟩
  | 16 => ⟨S128, .i32⟩
  | 17 => ⟨S128, .i32⟩
  | 18 => ⟨S_, .i32⟩
  | 19 => ⟨S128, .i32⟩
  | 20 => ⟨S128, .i1⟩
  | 21 => ⟨S128, .i1⟩
  | 22 => ⟨S_, .i32⟩
  | 23 => ⟨S128, .i32⟩
  | 24 => ⟨S128, .i32⟩
  | 25 => ⟨S128, .i32⟩
  | 26 => ⟨S128x1, .i32⟩
  | 27 => ⟨S128, .i32⟩
  | 28 => ⟨S_, .i32⟩
  | 29 => ⟨S_, .i32⟩
  | 30 => ⟨S128, .i32⟩
  | 31 => ⟨S128, .i32⟩
  | 32 => ⟨S128, .i32⟩
  | 33 => ⟨S_, .i32⟩
  | 34 => ⟨S128, .i32⟩
  | 35 => ⟨S128, .i1⟩
  | 36 => ⟨S128, .i32⟩
  | 37 => ⟨S128, .i32⟩
  | 38 => ⟨S_, .i32⟩
  | 39 => ⟨S128, .i32⟩
  | 40 => ⟨S128, .i1⟩
  | 41 => ⟨S128, .i1⟩
  | 42 => ⟨S_, .i32⟩
  | 43 => ⟨S128, .i32⟩
  | 44 => ⟨S128, .i32⟩
  | 45 => ⟨S128, .i32⟩
  | 46 => ⟨S1x128, .i32⟩
  | 47 => ⟨S128x128, .i32⟩
  | 48 => ⟨S128x128, .i32⟩
  | 49 => ⟨S128x128, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x128, .i32⟩
  | 57 => ⟨S1x128, .i32⟩
  | 58 => ⟨S_, .i32⟩
  | 59 => ⟨S1x128, .i32⟩
  | 60 => ⟨S1x128, .i1⟩
  | 61 => ⟨S_, .i32⟩
  | 62 => ⟨S1x128, .i32⟩
  | 63 => ⟨S1x128, .i1⟩
  | 64 => ⟨S_, .i32⟩
  | 65 => ⟨S_, .i1⟩
  | 66 => ⟨S1x128, .i1⟩
  | 67 => ⟨S1x128, .i1⟩
  | 68 => ⟨S1x128, .i1⟩
  | 69 => ⟨S1x128, .i32⟩
  | 70 => ⟨S1x128, .i32⟩
  | 71 => ⟨S1x128, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S128x1, .i32⟩
  | 79 => ⟨S128x1, .i32⟩
  | 80 => ⟨S_, .i32⟩
  | 81 => ⟨S128x1, .i32⟩
  | 82 => ⟨S128x1, .i1⟩
  | 83 => ⟨S_, .i32⟩
  | 84 => ⟨S128x1, .i32⟩
  | 85 => ⟨S128x1, .i1⟩
  | 86 => ⟨S_, .i32⟩
  | 87 => ⟨S_, .i1⟩
  | 88 => ⟨S128x1, .i1⟩
  | 89 => ⟨S128x1, .i1⟩
  | 90 => ⟨S128x1, .i1⟩
  | 91 => ⟨S128x1, .i32⟩
  | 92 => ⟨S128x1, .i32⟩
  | 93 => ⟨S128x1, .i32⟩
  | 94 => ⟨S128x128, .i32⟩
  | 95 => ⟨S128x128, .i32⟩
  | 96 => ⟨S128x128, .i1⟩
  | 97 => ⟨S128x128, .i1⟩
  | 98 => ⟨S2x32x128x128, .f32⟩
  | 99 => ⟨S_, .f32⟩
  | 100 => ⟨S2x32x128x128, .f32⟩
  | 101 => ⟨S2x32x128x128, .f32⟩
  | 102 => ⟨S1x1x128x128, .i1⟩
  | 103 => ⟨S_, .f32⟩
  | 104 => ⟨S_, .f32⟩
  | 105 => ⟨S2x32x128x128, .i1⟩
  | 106 => ⟨S2x32x128x128, .f32⟩
  | 107 => ⟨S2x32x128x128, .f32⟩
  | 108 => ⟨S_, .f32⟩
  | 109 => ⟨S2x32x128, .f32⟩
  | 110 => ⟨S2x32x128x1, .f32⟩
  | 111 => ⟨S2x32x128x128, .f32⟩
  | 112 => ⟨S2x32x128x128, .f32⟩
  | 113 => ⟨S2x32x128x128, .f32⟩
  | 114 => ⟨S_, .i1⟩
  | 115 => ⟨S128, .i1⟩
  | 116 => ⟨S1x1x128x1, .i1⟩
  | 117 => ⟨S_, .f32⟩
  | 118 => ⟨S2x32x128, .f32⟩
  | 119 => ⟨S2x32x128x1, .f32⟩
  | 120 => ⟨S_, .f32⟩
  | 121 => ⟨S_, .f32⟩
  | 122 => ⟨S2x32x128x1, .i1⟩
  | 123 => ⟨S2x32x128x1, .f32⟩
  | 124 => ⟨S2x32x128x1, .f32⟩
  | 125 => ⟨S2x32x128x128, .f32⟩
  | 126 => ⟨S2x32x128x128, .f32⟩
  | 127 => ⟨S1x1x128x1, .i1⟩
  | _ => ⟨S2x128x512, .f32⟩

abbrev hbmTy0_1 (i : Nat) : BufTy := match i % 128 with
  | 0 => ⟨S_, .f32⟩
  | 1 => ⟨S_, .f32⟩
  | 2 => ⟨S2x32x128x128, .i1⟩
  | 3 => ⟨S2x32x128x128, .f32⟩
  | 4 => ⟨S2x32x128x128, .f32⟩
  | 5 => ⟨S2x32x64x128, .f32⟩
  | 6 => ⟨S2x128x32x64, .f32⟩
  | 7 => ⟨S2x128x2048, .f32⟩
  | 8 => ⟨S2x128x512, .f32⟩
  | _ => ⟨S2x128x512, .f32⟩

abbrev hbmTy (i : Nat) : BufTy := match i / 128 with
  | 0 => hbmTy0_0 i
  | 1 => hbmTy0_1 i
  | _ => ⟨S2x128x512, .f32⟩

abbrev bufTy : (tb : Table) → Fin (tcTables nBuf tb) → BufTy
  | .hbm, ⟨i, _⟩ => hbmTy i
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Geom.lean ====
module

public import proofs.«01_k».proof.Proof.Gen.KernelIdeal.Skeleton
public import proofs.«01_k».proof.Proof.Gen.KernelIdeal.Points
public import Idealize.ShloMosaic.Lib.ValueLayout
public import Idealize.ShloMosaic.Lib.Pipeline.TalkSites
public import Idealize.ShloMosaic.Lib.Pipeline.ValueKit.Geometry
public import Idealize.ShloMosaic.Lib.SparseCore.Stream
public import Idealize.ShloMosaic.Lib.Ring
public import Idealize.ShloMosaic.Lib.ViewIndex

/-! # The copies of the kernel and where they lie

Device `c` sends to the seven others. A copy is named by `(i, k, h)`: it goes from `c` to device `c + i + 1`,
in phase `k` (0: partial sums towards the device that adds them, 1: finished sums back), for half `h` of a chunk
of 32 rows. Its source and destination windows, the semaphores it credits, and what it leaves are written here. -/

@[expose] public section

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F] [Named F]

/-- A copy: distance less one, phase, half. -/
abbrev Ed : Type := Fin 7 × Fin 2 × Fin 2

/-- The device that `c`'s copy at distance `i + 1` goes to, and the one it comes from. -/
def pl (c : Dev nD) (i : Fin 7) : Dev nD := ⟨(c.val + (i.val + 1)) % 8, Nat.mod_lt _ (by decide)⟩
@[inherit_doc pl] def mi (c : Dev nD) (i : Fin 7) : Dev nD := ⟨(c.val + (7 - i.val)) % 8, Nat.mod_lt _ (by decide)⟩

theorem mi_pl (c : Dev nD) (i : Fin 7) : mi (pl c i) i = c := by revert c i; decide
theorem pl_mi (c : Dev nD) (i : Fin 7) : pl (mi c i) i = c := by revert c i; decide
theorem pl_rev (c : Dev nD) (i : Fin 7) : pl (pl c i) i.rev = c := by revert c i; decide
theorem pl_ne (c : Dev nD) (i : Fin 7) : pl c i ≠ c := by revert c i; decide

/-! ## The scratch buffers -/

abbrev A6 : Memref sig .tc .vmem S256x512 .bf16 := Memref.whole cc0_scratch0
abbrev A7 : Memref sig .tc .vmem S7x32x512 .bf16 := Memref.whole cc0_scratch1
abbrev A8 : Memref sig .tc .vmem S32x512 .bf16 := Memref.whole cc0_scratch2
abbrev A9 : Memref sig .tc .vmem S7x32x512 .bf16 := Memref.whole cc0_scratch3

/-- The rows of chunk `j`, half `h`, of the partial sums; half `h` of the finished rows; slot `i`, half `h`, of a landing buffer. -/
theorem inb6 (j : Fin 8) (h : Fin 2) : ∀ a, (![32 * j.val + 16 * h.val, 0] : Fin 2 → ℕ) a + S16x512.size a ≤ S256x512.size a := by
  revert j h; decide
@[inherit_doc inb6] theorem inb8 (h : Fin 2) : ∀ a, (![16 * h.val, 0] : Fin 2 → ℕ) a + S16x512.size a ≤ S32x512.size a := by revert h; decide
@[inherit_doc inb6] theorem inb7 (i : Fin 7) (h : Fin 2) : ∀ a, (![i.val, 16 * h.val, 0] : Fin 3 → ℕ) a + S1x16x512.size a ≤ S7x32x512.size a := by
  revert i h; decide

abbrev r6 (j : Fin 8) (h : Fin 2) : Rect S256x512 := Rect.unit (s := S256x512) ![32 * j.val + 16 * h.val, 0] S16x512.size (inb6 j h)
abbrev r8 (h : Fin 2) : Rect S32x512 := Rect.unit (s := S32x512) ![16 * h.val, 0] S16x512.size (inb8 h)
abbrev r7 (i : Fin 7) (h : Fin 2) : Rect S7x32x512 := Rect.unit (s := S7x32x512) ![i.val, 16 * h.val, 0] S1x16x512.size (inb7 i h)

/-- The row offset of the copies' source windows, in closed form. -/
theorem off1_eq (c : Dev nD) (i : Fin 7) (h : Fin 2) :
    k0_off1 c (BitVec.ofNat 32 (1 + i.val)) (BitVec.ofNat 32 (16 * h.val)) = ![32 * (pl c i).val + 16 * h.val, 0] := by
  revert c i h; decide

/-- The rows that `c` sends in phase 0, the rows that it sends in phase 1, the slot that a copy lands in. -/
abbrev src6 (c : Dev nD) (i : Fin 7) (h : Fin 2) : Memref sig .tc .vmem S16x512 .bf16 :=
  A6.slice (Rect.unit (s := S256x512) (k0_off1 c (BitVec.ofNat 32 (1 + i.val)) (BitVec.ofNat 32 (16 * h.val))) S16x512.size (k0_off1_inb c i h)) (fun _ => rfl)
@[inherit_doc src6] abbrev src8 (h : Fin 2) : Memref sig .tc .vmem S16x512 .bf16 := A8.slice (r8 h) (fun _ => rfl)
@[inherit_doc src6] abbrev dst7 (i : Fin 7) (h : Fin 2) : Memref sig .tc .vmem S16x512 .bf16 :=
  (A7.slice (r7 i h) (fun _ => rfl)).squeeze S16x512 squeezes_S1x16x512_S16x512
@[inherit_doc src6] abbrev dst9 (i : Fin 7) (h : Fin 2) : Memref sig .tc .vmem S16x512 .bf16 :=
  (A9.slice (r7 i h) (fun _ => rfl)).squeeze S16x512 squeezes_S1x16x512_S16x512

def srcM (c : Dev nD) : Ed → Memref sig .tc .vmem S16x512 .bf16
  | (i, 0, h) => src6 c i h
  | (_, 1, h) => src8 h
def dstM : Ed → Memref sig .tc .vmem S16x512 .bf16
  | (i, 0, h) => dst7 i h
  | (i, 1, h) => dst9 i h

/-! ## The element sets -/

theorem src6_set (c : Dev nD) (i : Fin 7) (h : Fin 2) : (src6 c i h).view.set = (r6 (pl c i) h).set := by
  have h0 : (src6 c i h).view.set = (Rect.unit (s := S256x512) (k0_off1 c (BitVec.ofNat 32 (1 + i.val)) (BitVec.ofNat 32 (16 * h.val))) S16x512.size (k0_off1_inb c i h)).set :=
    View.set_slice_whole _ _
  rw [h0]
  congr 1
  simp only [off1_eq]

theorem src8_set (h : Fin 2) : (src8 h).view.set = (r8 h).set := View.set_slice_whole _ _
theorem dst7_set (i : Fin 7) (h : Fin 2) : (dst7 i h).view.set = (r7 i h).set :=
  (View.set_reshape (v := (A7.slice (r7 i h) (fun _ => rfl)).view) squeezes_S1x16x512_S16x512.numel_eq).trans (View.set_slice_whole _ _)
theorem dst9_set (i : Fin 7) (h : Fin 2) : (dst9 i h).view.set = (r7 i h).set :=
  (View.set_reshape (v := (A9.slice (r7 i h) (fun _ => rfl)).view) squeezes_S1x16x512_S16x512.numel_eq).trans (View.set_slice_whole _ _)

/-! ## The coordinates of an element of a window -/

theorem src6_emb0 (c : Dev nD) (i : Fin 7) (h : Fin 2) (y : S16x512.Idx) : (((src6 c i h).view.emb y) 0).val = 32 * (pl c i).val + 16 * h.val + (y 0).val := by
  have h0 := ValueKit.view_emb_slice_whole_unit_val cc0_scratch0 (k0_off1 c (BitVec.ofNat 32 (1 + i.val)) (BitVec.ofNat 32 (16 * h.val))) S16x512.size (k0_off1_inb c i h) y 0
  exact h0.trans (congrArg (· + (y 0).val) (congrFun (off1_eq c i h) 0))
theorem src6_emb1 (c : Dev nD) (i : Fin 7) (h : Fin 2) (y : S16x512.Idx) : (((src6 c i h).view.emb y) 1).val = (y 1).val := by
  have h0 := ValueKit.view_emb_slice_whole_unit_val cc0_scratch0 (k0_off1 c (BitVec.ofNat 32 (1 + i.val)) (BitVec.ofNat 32 (16 * h.val))) S16x512.size (k0_off1_inb c i h) y 1
  exact h0.trans ((congrArg (· + (y 1).val) (congrFun (off1_eq c i h) 1)).trans (Nat.zero_add _))
theorem src8_emb0 (h : Fin 2) (y : S16x512.Idx) : (((src8 h).view.emb y) 0).val = 16 * h.val + (y 0).val :=
  ValueKit.view_emb_slice_whole_unit_val cc0_scratch2 ![16 * h.val, 0] S16x512.size (inb8 h) y 0
theorem src8_emb1 (h : Fin 2) (y : S16x512.Idx) : (((src8 h).view.emb y) 1).val = (y 1).val :=
  (ValueKit.view_emb_slice_whole_unit_val cc0_scratch2 ![16 * h.val, 0] S16x512.size (inb8 h) y 1).trans (Nat.zero_add _)

theorem squeeze_idx (y : S16x512.Idx) : Shape.reshapeEquiv (squeezes_S1x16x512_S16x512.numel_eq) y = ix3 (⟨0, Nat.one_pos⟩ : Fin 1) (y 0) (y 1) := by
  conv_lhs => rw [eq_ix2 y]
  exact reshapeEquiv_ix2_1ab _ (y 0) (y 1)

theorem dst7_emb (i : Fin 7) (h : Fin 2) (y : S16x512.Idx) :
    (dst7 i h).view.emb y = ix3 i (⟨16 * h.val + (y 0).val, by have := h.isLt; have := idx2_lt0 y; omega⟩ : Fin 32) (y 1) := by
  have e : (dst7 i h).view.emb y = (A7.slice (r7 i h) (fun _ => rfl)).view.emb (Shape.reshapeEquiv (squeezes_S1x16x512_S16x512.numel_eq) y) := rfl
  rw [e, squeeze_idx]
  funext a
  apply Fin.ext
  refine (ValueKit.view_emb_slice_whole_unit_val cc0_scratch1 ![i.val, 16 * h.val, 0] S1x16x512.size (inb7 i h) _ a).trans ?_
  match a with
  | ⟨0, _⟩ => exact Nat.add_zero _
  | ⟨1, _⟩ => rfl
  | ⟨2, _⟩ => exact Nat.zero_add _
theorem dst9_emb (i : Fin 7) (h : Fin 2) (y : S16x512.Idx) :
    (dst9 i h).view.emb y = ix3 i (⟨16 * h.val + (y 0).val, by have := h.isLt; have := idx2_lt0 y; omega⟩ : Fin 32) (y 1) := dst7_emb i h y

/-! ## What the copies leave -/

/-- The contents of the four scratch buffers. -/
abbrev C6 (F : FTy → Type) : Type := S256x512.Idx → Elt F .bf16
@[inherit_doc C6] abbrev C7 (F : FTy → Type) : Type := S7x32x512.Idx → Elt F .bf16
@[inherit_doc C6] abbrev C8 (F : FTy → Type) : Type := S32x512.Idx → Elt F .bf16

variable (M : Dev nD → C6 F) (R : Dev nD → C8 F)

/-- Row `r` of device `c`'s chunk. -/
def row6 (c : Dev nD) (r : Fin 32) : Fin 256 := ⟨32 * c.val + r.val, by have := c.isLt; have : nD = 8 := rfl; omega⟩

/-- The landing buffer of phase 0 on device `c`: in slot `i`, the chunk of `c` among the partial sums of the device the copy came from;
    the landing buffer of phase 1: in slot `i`, the finished rows of the device the copy came from. -/
def land7 (c : Dev nD) : C7 F := fun x => M (mi c (x 0)) (ix2 (row6 c (x 1)) (x 2))
@[inherit_doc land7] def land9 (c : Dev nD) : C7 F := fun x => R (mi c (x 0)) (ix2 (x 1) (x 2))

/-- A write through a window, at the window's elements, is any function that agrees with what was written. -/
theorem write_window {v : View sig .tc .vmem S16x512 .bf16} {f g : v.ty.Contents (Elt F)} {w : S16x512.Idx → Elt F .bf16}
    (h : ∀ y, v.read (Elt F) g y = w y) : ∀ x ∈ v.set, v.write (Elt F) f w Finset.univ x = g x := by
  intro x hx
  obtain ⟨y, rfl⟩ := View.exists_emb_of_mem_set v hx
  have h1 := View.read_write_of_mem (v := v) (Val := Elt F) f w (Finset.mem_univ y)
  rw [← h y] at h1
  exact View.eq_of_read_eq h1

theorem landed7 (c : Dev nD) (i : Fin 7) (h : Fin 2) (f : C7 F) : ∀ x ∈ (dst7 i h).view.set,
    (dst7 i h).view.write (Elt F) f ((src6 c i h).view.read (Elt F) (M c)) Finset.univ x = land7 M (pl c i) x := by
  refine write_window (v := (dst7 i h).view) (g := land7 M (pl c i)) fun y => ?_
  show land7 M (pl c i) ((dst7 i h).view.emb y) = M c ((src6 c i h).view.emb y)
  rw [dst7_emb]; unfold land7
  show M (mi (pl c i) i) _ = _
  rw [mi_pl]
  refine congrArg (M c) (funext fun a => Fin.ext ?_)
  match a with
  | ⟨0, _⟩ => exact (by rw [row6, Nat.add_assoc] : (row6 (pl c i) _).val = _).trans (src6_emb0 c i h y).symm
  | ⟨1, _⟩ => exact (src6_emb1 c i h y).symm

theorem landed9 (c : Dev nD) (i : Fin 7) (h : Fin 2) (f : C7 F) : ∀ x ∈ (dst9 i h).view.set,
    (dst9 i h).view.write (Elt F) f ((src8 h).view.read (Elt F) (R c)) Finset.univ x = land9 R (pl c i) x := by
  refine write_window (v := (dst9 i h).view) (g := land9 R (pl c i)) fun y => ?_
  show land9 R (pl c i) ((dst9 i h).view.emb y) = R c ((src8 h).view.emb y)
  rw [dst9_emb]; unfold land9
  show R (mi (pl c i) i) _ = _
  rw [mi_pl]
  refine congrArg (R c) (funext fun a => Fin.ext ?_)
  match a with
  | ⟨0, _⟩ => exact (src8_emb0 h y).symm
  | ⟨1, _⟩ => exact (src8_emb1 h y).symm

end Cert.KernelIdeal.Gen

end
-- ==== Proof.Sched.lean ====
module

public import Idealize.ShloMosaic.Lib.Pipeline.BigSepL
public import proofs.«01_k».proof.Proof.Geom

/-! # The protocol: semaphores, duties, payloads

Barrier semaphore of device `c`: one round of seven duties of one unit. Duty `i` is paid by device `c + i + 1`, and hands `c` the four
slots (two phases, two halves) of that device that `c` will write.
A copy `(i, k, h)` credits a semaphore of the sender and one of the receiver. The sender's hands the source rows back;
the receiver's hands over the slot, at what the copy left there. -/

@[expose] public section

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.SiteBlocks (L lv mem_L' mayWait_of)
open Idealize.ShloMosaic.TalkSites (Pay tallyL tallyL_pos Fam)

variable {F : FTy → Type} [FloatOps F] [Named F]

abbrev UU : Type := UR sig nD τ × URounds (GSem nD τ sig) (Fin 7)

local notation "𝕄" => MT nD τ sig ℕ (Elt F) ℕ UU ℕ

abbrev EP : Emb (UR sig nD τ) (MT nD τ sig ℕ (Elt F) ℕ UU ℕ) := embL
abbrev ER : Emb (URounds (GSem nD τ sig) (Fin 7)) (MT nD τ sig ℕ (Elt F) ℕ UU ℕ) := embR

abbrev 𝒱₀ : Variants := Variants.none

/-! ## Cells -/

/-- The semaphore that copy `e` credits on its sender (`r = 0`) or on its receiver (`r = 1`). -/
def sIx (e : Ed) (r : Fin 2) : DmaSem sig :=
  ⟨6 + 14 * (2 * e.2.1.val + r.val) + 2 * e.1.val + e.2.2.val, by
    have h1 := e.1.isLt; have h2 := e.2.1.isLt; have h3 := e.2.2.isLt; have h4 := r.isLt
    show _ < 62; omega⟩

/-- The copy and the side that a semaphore belongs to. -/
def dcd (s : DmaSem sig) : Ed × Fin 2 :=
  ((⟨((s.val - 6) % 14) / 2 % 7, Nat.mod_lt _ (by decide)⟩, ⟨(s.val - 6) / 28 % 2, Nat.mod_lt _ (by decide)⟩, ⟨(s.val - 6) % 2, Nat.mod_lt _ (by decide)⟩),
    ⟨(s.val - 6) / 14 % 2, Nat.mod_lt _ (by decide)⟩)

theorem dcd_sIx (e : Ed) (r : Fin 2) : dcd (sIx e r) = (e, r) := by revert e r; decide
theorem sIx_ge (e : Ed) (r : Fin 2) : 6 ≤ (sIx e r).val := by show 6 ≤ 6 + _ + _ + _; omega
theorem sIx_dcd (s : DmaSem sig) (h : 6 ≤ s.val) : sIx (dcd s).1 (dcd s).2 = s := by revert s; decide

abbrev barCell (c : Dev nD) : GSem nD τ sig := ((c : Thread nD τ), .reg barrier0)
abbrev sendCell (c : Dev nD) (e : Ed) : GSem nD τ sig := ((c : Thread nD τ), .dma (sIx e 0))
abbrev recvCell (c : Dev nD) (e : Ed) : GSem nD τ sig := ((c : Thread nD τ), .dma (sIx e 1))

/-- The units of a copy. -/
abbrev NN : ℕ := (dst7 0 0).view.dmaCredit
theorem NN_pos : 0 < NN := View.dmaCredit_pos _ (by decide)

/-! ## Points-tos -/

variable (M : Dev nD → C6 F) (R : Dev nD → C8 F)

/-- The share of the source that copy `e` takes: all of it in phase 0, one of seven pieces in phase 1 (the seven copies read the same rows). -/
abbrev q8 (i : Fin 7) : PosShare TreeShare := pieceOf fullShare 7 (by decide) i

/-- The source of copy `e` on `c`. -/
def srcP (c : Dev nD) : Ed → sProp 𝕄
  | (i, 0, h) => (src6 c i h).view.loc (c : Thread nD τ) ↦[(src6 c i h).view.set]{fullShare} M c
  | (i, 1, h) => (src8 h).view.loc (c : Thread nD τ) ↦[(src8 h).view.set]{q8 i} R c
/-- The slot of copy `e` on `c`, at contents not chosen. -/
def dstAny (c : Dev nD) : Ed → sProp 𝕄
  | (i, 0, h) => iprop(∃ f : C7 F, (dst7 i h).view.loc (c : Thread nD τ) ↦[(dst7 i h).view.set]{fullShare} f)
  | (i, 1, h) => iprop(∃ f : C7 F, (dst9 i h).view.loc (c : Thread nD τ) ↦[(dst9 i h).view.set]{fullShare} f)
/-- The slot of copy `e` on `c`, at what the copy leaves. -/
def dstL (c : Dev nD) : Ed → sProp 𝕄
  | (i, 0, h) => (dst7 i h).view.loc (c : Thread nD τ) ↦[(dst7 i h).view.set]{fullShare} land7 M c
  | (i, 1, h) => (dst9 i h).view.loc (c : Thread nD τ) ↦[(dst9 i h).view.set]{fullShare} land9 R c

instance srcP_storable (c : Dev nD) (e : Ed) : BI.Storable (upEmb : UEmb _ 𝕄) (srcP M R c e) := by
  obtain ⟨i, k, h⟩ := e
  match k with
  | 0 => unfold srcP; infer_instance
  | 1 => unfold srcP; infer_instance
instance dstAny_storable (c : Dev nD) (e : Ed) : BI.Storable (upEmb : UEmb _ 𝕄) (dstAny (F := F) c e) := by
  obtain ⟨i, k, h⟩ := e
  match k with
  | 0 => unfold dstAny; infer_instance
  | 1 => unfold dstAny; infer_instance
instance dstL_storable (c : Dev nD) (e : Ed) : BI.Storable (upEmb : UEmb _ 𝕄) (dstL M R c e) := by
  obtain ⟨i, k, h⟩ := e
  match k with
  | 0 => unfold dstL; infer_instance
  | 1 => unfold dstL; infer_instance

theorem dstL_any (c : Dev nD) (e : Ed) : dstL M R c e ⊢ dstAny (F := F) c e := by
  obtain ⟨i, k, h⟩ := e
  match k with
  | 0 => unfold dstL dstAny; iintro H; iexists _; iexact H
  | 1 => unfold dstL dstAny; iintro H; iexists _; iexact H

/-! ## The schedule -/

/-- What device `c + i + 1` hands `c` with its barrier unit. -/
def barPay (c : Dev nD) (i : Fin 7) : sProp 𝕄 :=
  bigSep Finset.univ fun kh : Fin 2 × Fin 2 => iprop(dstAny (F := F) (pl c i) (i, kh) ∗ reached (ER (F := F)) (recvCell (pl c i) (i, kh)) 0)

def Rd : Rounds.Schedule (GSem nD τ sig) (Fin 7) 𝕄 where
  duties g r := if r = 0 ∧ g.1.2 = .tc then (match g.2 with | .reg _ => Finset.univ | .dma s => if 6 ≤ s.val then {0} else ∅) else ∅
  unitless _ := False
  amount g _ _ := match g.2 with | .reg _ => 1 | .dma _ => NN
  payload g _ d := match g.2 with
    | .reg _ => barPay g.1.1 d
    | .dma s => if (dcd s).2 = 0 then srcP M R g.1.1 (dcd s).1 else dstL M R g.1.1 (dcd s).1
  amount_pos g _ _ _ := by
    rcases g with ⟨t, s⟩
    match s with
    | .reg _ => exact Nat.one_pos
    | .dma _ => exact NN_pos

instance Rd_payload_storable (g : GSem nD τ sig) (r : ℕ) (d : Fin 7) : BI.Storable (upEmb : UEmb _ 𝕄) ((Rd M R).payload g r d) := by
  rcases g with ⟨t, s⟩
  match s with
  | .reg _ => show BI.Storable upEmb (barPay (F := F) t.1 d); unfold barPay; infer_instance
  | .dma s =>
    show BI.Storable upEmb (if (dcd s).2 = 0 then srcP M R t.1 (dcd s).1 else dstL M R t.1 (dcd s).1)
    split <;> infer_instance

theorem duties_bar (c : Dev nD) : (Rd M R).duties (barCell c) 0 = Finset.univ := by dsimp only [Rd]; exact if_pos ⟨rfl, rfl⟩
theorem duties_dma (c : Dev nD) (e : Ed) (r : Fin 2) : (Rd M R).duties ((c : Thread nD τ), .dma (sIx e r)) 0 = {0} := by
  dsimp only [Rd]; rw [if_pos ⟨rfl, rfl⟩, if_pos (sIx_ge e r)]
theorem duties_later (g : GSem nD τ sig) : ∀ r, 1 ≤ r → (Rd M R).duties g r = ∅ :=
  fun r hr => by dsimp only [Rd]; rw [if_neg (fun h => by omega)]
theorem amount_bar (c : Dev nD) (d : Fin 7) : (Rd M R).amount (barCell c) 0 d = 1 := rfl
theorem amount_dma (c : Dev nD) (s : DmaSem sig) (d : Fin 7) : (Rd M R).amount ((c : Thread nD τ), .dma s) 0 d = NN := rfl
theorem expect_bar (c : Dev nD) : (Rd M R).expect (barCell c) 0 = 7 := by
  unfold Schedule.expect Schedule.amountOf; rw [duties_bar]
  simp only [amount_bar, Finset.sum_const, Finset.card_univ, Fintype.card_fin, smul_eq_mul, mul_one]
theorem expect_dma (c : Dev nD) (e : Ed) (r : Fin 2) : (Rd M R).expect ((c : Thread nD τ), .dma (sIx e r)) 0 = NN := by
  unfold Schedule.expect Schedule.amountOf; rw [duties_dma, Finset.sum_singleton, amount_dma]
theorem payload_bar (c : Dev nD) (d : Fin 7) : (Rd M R).payload (barCell c) 0 d = barPay c d := rfl
theorem payload_send (c : Dev nD) (e : Ed) (d : Fin 7) : (Rd M R).payload (sendCell c e) 0 d = srcP M R c e := by
  show (if (dcd (sIx e 0)).2 = 0 then srcP M R c (dcd (sIx e 0)).1 else dstL M R c (dcd (sIx e 0)).1) = _
  rw [dcd_sIx, if_pos rfl]
theorem payload_recv (c : Dev nD) (e : Ed) (d : Fin 7) : (Rd M R).payload (recvCell c e) 0 d = dstL M R c e := by
  show (if (dcd (sIx e 1)).2 = 0 then srcP M R c (dcd (sIx e 1)).1 else dstL M R c (dcd (sIx e 1)).1) = _
  rw [dcd_sIx, if_neg (show ¬(1 : Fin 2) = 0 by decide)]
theorem rest_bar (c : Dev nD) : bigSep ((Rd M R).duties (barCell c) 0 \ ∅) (fun u => (Rd M R).payload (barCell c) 0 u) = bigSep Finset.univ fun i => barPay (F := F) c i := by
  rw [Finset.sdiff_empty, duties_bar]; rfl
theorem rest_send (c : Dev nD) (e : Ed) : bigSep ((Rd M R).duties (sendCell c e) 0 \ ∅) (fun u => (Rd M R).payload (sendCell c e) 0 u) = srcP M R c e := by
  rw [Finset.sdiff_empty, duties_dma, bigSep_singleton, payload_send]
theorem rest_recv (c : Dev nD) (e : Ed) : bigSep ((Rd M R).duties (recvCell c e) 0 \ ∅) (fun u => (Rd M R).payload (recvCell c e) 0 u) = dstL M R c e := by
  rw [Finset.sdiff_empty, duties_dma, bigSep_singleton, payload_recv]

theorem close (κ : ℕ) (g : GSem nD τ sig) : iprop(cellInv ER (Rd M R) κ g ∗ atPos ER g (0 + 1) ∅ 0) ⊢ (|={Set.univ}=> semVal g 0 : sProp 𝕄) :=
  Rounds.cell_close ER (Rd M R) (Set.mem_univ κ) id (duties_later M R g)

/-! ## Orders -/

/-- The order of the kernel's copies, of its waits for what lands, and of its waits for its own copies. -/
def sendOrd : List Ed :=
  [1, 5, 0, 2, 4, 6, 3].map (·, 0, 0) ++ [1, 5, 0, 2, 4, 6, 3].map (·, 0, 1)
    ++ [1, 5, 0, 2, 4, 6, 3].map (·, 1, 0) ++ [1, 5, 0, 2, 4, 6, 3].map (·, 1, 1)
@[inherit_doc sendOrd] def recvOrd : List Ed :=
  [3, 0, 2, 4, 6, 5, 1].map (·, 0, 0) ++ [3, 0, 2, 4, 6, 5, 1].map (·, 0, 1)
    ++ [3, 0, 2, 4, 6, 5, 1].map (·, 1, 0) ++ [3, 0, 2, 4, 6, 5, 1].map (·, 1, 1)
@[inherit_doc sendOrd] def waitOrd : List Ed := (List.finRange 7).flatMap fun i => [(i, 0, 0), (i, 1, 0), (i, 0, 1), (i, 1, 1)]

/-- The index a copy's unit is owed at: its receiver's wait comes at this place in the order of all waits. -/
def ixOf (e : Ed) : ℕ := 2 + e.2.1.val

/-- What device `c` still owes after `n` copies; and before them, after `b` barrier signals. -/
def payS (c : Dev nD) (e : Ed) : Pay nD τ sig := (recvCell (pl c e.1) e, ixOf e, NN)
@[inherit_doc payS] def payB (c : Dev nD) (i : Fin 7) : Pay nD τ sig := (barCell (pl c i), 1, 1)
@[inherit_doc payS] def payL (c : Dev nD) (n : ℕ) : List (Pay nD τ sig) := (sendOrd.drop n).map (payS c)
@[inherit_doc payS] def payBL (c : Dev nD) (b : ℕ) : List (Pay nD τ sig) := ((List.finRange 7).drop b).map (payB c) ++ payL c 0

/-! ## Lists -/

section Lists
variable {Mo : Type} [URA Mo] {I : Type}

theorem bigSepL_drop {l : List I} {n : ℕ} {e : I} (h : l[n]? = some e) (Φ : I → sProp Mo) :
    bigSepL (l.drop n) Φ = iprop(Φ e ∗ bigSepL (l.drop (n + 1)) Φ) := by
  obtain ⟨hn, rfl⟩ := List.getElem?_eq_some_iff.mp h
  rw [List.drop_eq_getElem_cons hn, bigSepL_cons]; rfl

theorem bigSepL_take {l : List I} {n : ℕ} {e : I} (h : l[n]? = some e) (Φ : I → sProp Mo) :
    bigSepL (l.take (n + 1)) Φ = iprop(bigSepL (l.take n) Φ ∗ Φ e) := by
  rw [List.take_add_one, h, bigSepL_append]; rfl
end Lists

/-! ## The family of cells -/

/-- The cells and tokens of the launch. -/
def dormS : Finset (SemLoc sig) := Finset.univ.image fun p : Ed × Fin 2 => SemLoc.dma (sIx p.1 p.2)
def toksS (c : Dev nD) : Finset (GSem nD τ sig × ℕ × Fin 7) :=
  (Finset.univ.image fun i : Fin 7 => (barCell (pl c i), 0, i.rev))
    ∪ ((Finset.univ.image fun e : Ed => (sendCell c e, 0, (0 : Fin 7))) ∪ Finset.univ.image fun e : Ed => (recvCell (pl c e.1) e, 0, (0 : Fin 7)))

/-- The device that pays a duty. -/
def payer (x : GSem nD τ sig × ℕ × Fin 7) : Dev nD := match x.1.2 with
  | .reg _ => pl x.1.1.1 x.2.2
  | .dma s => if (dcd s).2 = 0 then x.1.1.1 else mi x.1.1.1 (dcd s).1.1

def Fm : Fam nD τ sig (Fin 7) 1 where
  bar := .reg barrier0
  dorm _ := dormS
  toks c _ := toksS c
  semKey _ := 0
  hsem j _ _ := (Subsingleton.elim _ _)
  hbar j h := by
    obtain ⟨p, -, hp⟩ := Finset.mem_image.mp h
    cases hp
  tokKey x := (payer x, 0)
  htok c j x hx := by
    refine Prod.ext ?_ (Subsingleton.elim _ _)
    show payer x = c
    rcases Finset.mem_union.mp hx with hx | hx
    · obtain ⟨i, -, rfl⟩ := Finset.mem_image.mp hx
      exact pl_rev c i
    rcases Finset.mem_union.mp hx with hx | hx
    · obtain ⟨e, -, rfl⟩ := Finset.mem_image.mp hx
      show (if (dcd (sIx e 0)).2 = 0 then c else mi c (dcd (sIx e 0)).1.1) = c
      rw [dcd_sIx, if_pos rfl]
    · obtain ⟨e, -, rfl⟩ := Finset.mem_image.mp hx
      show (if (dcd (sIx e 1)).2 = 0 then pl c e.1 else mi (pl c e.1) (dcd (sIx e 1)).1.1) = c
      rw [dcd_sIx, if_neg (show ¬(1 : Fin 2) = 0 by decide), mi_pl]

theorem mem_dormS (e : Ed) (r : Fin 2) : SemLoc.dma (sIx e r) ∈ (Fm.dorm 0) := Finset.mem_image.mpr ⟨(e, r), Finset.mem_univ _, rfl⟩

end Cert.KernelIdeal.Gen

end
-- ==== Proof.Steps.lean ====
module

public import proofs.«01_k».proof.Proof.Sched

/-! # The steps of the body, each once

The state of the body between two operations is counted along the three fixed orders: `n` copies are sent, `m` of the sources are
in hand so far, `r` landings are waited for. Each operation moves one counter. -/

@[expose] public section

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.SiteBlocks (L lv mem_L' mayWait_of)
open Idealize.ShloMosaic.TalkSites (Pay tallyL tallyL_pos Fam)

variable {F : FTy → Type} [FloatOps F] [Named F]

local notation "𝕄" => MT nD τ sig ℕ (Elt F) ℕ UU ℕ

variable (M : Dev nD → C6 F) (R : Dev nD → C8 F)

/-! ## The state -/

/-- The cells' invariants and the levels. -/
def Cx (κ : GSem nD τ sig → ℕ) : sProp 𝕄 := iprop(Fm.cellInvs ER (Rd M R) κ ∗ levAts (L 4) lv)
instance Cx_persistent (κ : GSem nD τ sig → ℕ) : BI.Persistent (Cx M R κ) := by unfold Cx; infer_instance

/-- What copy `e` needs on `c` beside its source; what is left of it while it flies; what comes back. -/
def Rdy (c : Dev nD) (e : Ed) : sProp 𝕄 :=
  iprop((dutyTok (ER (F := F)) (sendCell c e) 0 0 ∗ reached (ER (F := F)) (sendCell c e) 0 ∗ atPos (ER (F := F)) (sendCell c e) 0 ∅ 0)
    ∗ dutyTok (ER (F := F)) (recvCell (pl c e.1) e) 0 0 ∗ reached (ER (F := F)) (recvCell (pl c e.1) e) 0 ∗ dstAny (F := F) (pl c e.1) e)
@[inherit_doc Rdy] def Fly (c : Dev nD) (e : Ed) : sProp 𝕄 := iprop(cred (tallyAt (sendCell c e) 3 NN) ∗ atPos (ER (F := F)) (sendCell c e) 0 ∅ 0)
@[inherit_doc Rdy] def SDone (c : Dev nD) (e : Ed) : sProp 𝕄 := iprop(semVal (sendCell c e) 0 ∗ srcP M R c e)
/-- The slot of copy `e` on `c`, before and after its landing. -/
def Pend (c : Dev nD) (e : Ed) : sProp 𝕄 := iprop(cred (tallyAt (recvCell c e) (ixOf e) NN) ∗ atPos (ER (F := F)) (recvCell c e) 0 ∅ 0)
@[inherit_doc Pend] def RDone (c : Dev nD) (e : Ed) : sProp 𝕄 := iprop(semVal (recvCell c e) 0 ∗ dstL M R c e)

/-- The body's state after `n` copies, with the first `m` sources made, and `r` landings. -/
def St (κ : GSem nD τ sig → ℕ) (c : Dev nD) (n m r : ℕ) : sProp 𝕄 :=
  iprop(Cx M R κ ∗ bigSepL (sendOrd.drop n) (Rdy c) ∗ bigSepL ((sendOrd.take m).drop n) (srcP M R c) ∗ bigSepL (sendOrd.take n) (Fly c)
    ∗ (∃ W, owes (c : Thread nD τ) (tallyL (payL c n)) W) ∗ bigSepL (recvOrd.drop r) (Pend c) ∗ bigSepL (recvOrd.take r) (RDone M R c))

/-- The state in the last phase, after `w` waits for the own copies. -/
def Sw (κ : GSem nD τ sig → ℕ) (c : Dev nD) (w : ℕ) : sProp 𝕄 :=
  iprop(Cx M R κ ∗ bigSepL (waitOrd.drop w) (Fly c) ∗ bigSepL (waitOrd.take w) (SDone M R c)
    ∗ (∃ W, owes (c : Thread nD τ) (0 : CellTallies nD τ sig ℕ) W) ∗ bigSepL recvOrd (RDone M R c))

/-- The barrier's state, after `b` signals. -/
def Sb (κ : GSem nD τ sig → ℕ) (c : Dev nD) (b : ℕ) : sProp 𝕄 :=
  iprop(Cx M R κ ∗ bigSepL ((List.finRange 7).drop b) (fun j => iprop(dutyTok (ER (F := F)) (barCell (pl c j)) 0 j.rev ∗ reached (ER (F := F)) (barCell (pl c j)) 0 ∗ barPay (F := F) (pl c j) j.rev))
    ∗ ∃ W, owes (c : Thread nD τ) (tallyL (payBL c b)) W)

/-! ## Cells out of the family -/

theorem Cx_bar (κ : GSem nD τ sig → ℕ) (c : Dev nD) : Cx M R κ ⊢ cellInv ER (Rd M R) (κ (barCell c)) (barCell c) := by
  unfold Cx; iintro ⟨H, -⟩; iapply (Fm.cellInvs_bar ER (Rd M R) κ c); iexact H
theorem Cx_dma (κ : GSem nD τ sig → ℕ) (c : Dev nD) (e : Ed) (r : Fin 2) :
    Cx M R κ ⊢ cellInv ER (Rd M R) (κ ((c : Thread nD τ), .dma (sIx e r))) ((c : Thread nD τ), .dma (sIx e r)) := by
  unfold Cx; iintro ⟨H, -⟩; iapply (Fm.cellInvs_dorm ER (Rd M R) κ c (mem_dormS e r)); iexact H

theorem mayWait (κ : GSem nD τ sig → ℕ) (c : Dev nD) (sm : SemLoc sig) (i : ℕ) (l : List (Pay nD τ sig)) (hl : ∀ x ∈ l, x.1.1.2 = .tc ∧ i < x.2.1 ∧ x.2.1 < 4) (hi : i < 4) :
    Cx M R κ ⊢ MayWait (c : Thread nD τ) sm i (tallyL l) := by
  unfold Cx; iintro ⟨-, H⟩
  iapply (mayWait_of hi c sm (tallyL l) fun g k h => by
    obtain ⟨x, hx, rfl, rfl⟩ := tallyL_pos h
    obtain ⟨h1, h2, h3⟩ := hl x hx
    exact ⟨mem_L' h1 h3, h2⟩)
  iexact H

theorem pay_above (c : Dev nD) {n i : ℕ} (h : ∀ e ∈ sendOrd.drop n, i < ixOf e) : ∀ x ∈ payL c n, x.1.1.2 = .tc ∧ i < x.2.1 ∧ x.2.1 < 4 := by
  intro x hx
  obtain ⟨e, he, rfl⟩ := List.mem_map.mp hx
  exact ⟨rfl, h e he, by show 2 + _ < 4; have := e.2.1.isLt; omega⟩

/-! ## Copies -/

theorem srcP_copy (c : Dev nD) (e : Ed) : ∃ (q : PosShare TreeShare) (fs : Buf (Elt F) ((srcM c e).view.loc (c : Thread nD τ))),
    srcP M R c e = ((srcM c e).view.loc (c : Thread nD τ) ↦[(srcM c e).view.set]{q} fs : sProp 𝕄)
    ∧ ∀ fd : Buf (Elt F) ((dstM e).view.loc (pl c e.1 : Thread nD τ)),
      ((dstM e).view.loc (pl c e.1 : Thread nD τ) ↦[(dstM e).view.set]{fullShare} ((dstM e).view.write (Elt F) fd ((srcM c e).view.read (Elt F) fs) Finset.univ) : sProp 𝕄)
        = dstL M R (pl c e.1) e := by
  obtain ⟨i, k, h⟩ := e
  match k with
  | 0 => exact ⟨fullShare, M c, rfl, fun fd => pointsTo_congr (landed7 M c i h fd)⟩
  | 1 => exact ⟨q8 i, R c, rfl, fun fd => pointsTo_congr (landed9 R c i h fd)⟩

theorem dstAny_eq (c : Dev nD) (e : Ed) : dstAny (F := F) c e
    = iprop(∃ f : Buf (Elt F) ((dstM e).view.loc (c : Thread nD τ)), (dstM e).view.loc (c : Thread nD τ) ↦[(dstM e).view.set]{fullShare} f) := by
  obtain ⟨i, k, h⟩ := e
  match k with
  | 0 => rfl
  | 1 => rfl

theorem amount_dst (e : Ed) (s : DmaSem sig) : (dstM e).view.amount (.dma s) = NN := by
  obtain ⟨i, k, h⟩ := e
  match k with
  | 0 => rfl
  | 1 => rfl

theorem credit_src (c : Dev nD) (e : Ed) : (srcM c e).view.dmaCredit = NN := by
  obtain ⟨i, k, h⟩ := e
  match k with
  | 0 => rfl
  | 1 => rfl

section Ops
variable {α : Type} {Kt : α → sProp (MT nD τ sig ℕ (Elt F) ℕ UU ℕ)}

set_option maxHeartbeats 1000000 in
theorem step_send (κ : GSem nD τ sig → ℕ) {c : Dev nD} {n m r : ℕ} (e : Ed) (hn : sendOrd[n]? = some e) (hm : (sendOrd.take m)[n]? = some e)
    {src dst : Memref sig .tc .vmem S16x512 .bf16} {p : Dev nD} {sS sem : SemLoc sig} {hsc : dst.view.ref.isScScratch = false}
    {hsrc : src.view.WordExact} {hdst : dst.view.WordExact} {hsem : DmaTarget.Typed .vmem sem (.remote (p.tc : Thread nD τ) dst sS hsc)}
    {k : PUnit → Prog (TpuEff nD τ sig (Elt F) Λ₀ .tc) α}
    (hp : p = pl c e.1) (h1 : src = srcM c e) (h2 : dst = dstM e) (h3 : sS = .dma (sIx e 0)) (h4 : sem = .dma (sIx e 1)) :
    St M R κ c n m r ⊢ iprop((St M R κ c (n + 1) m r -∗ wp frame (wpE (defs₀ (F := F)) 𝒱₀ (c : Thread nD τ) none) Set.univ (k ⟨⟩) Kt)
      -∗ wp frame (wpE (defs₀ (F := F)) 𝒱₀ (c : Thread nD τ) none) Set.univ (.op (.enqueueDma src (.remote (p.tc : Thread nD τ) dst sS hsc) sem hsrc hdst hsem) k) Kt) := by
  subst hp h1 h2 h3 h4
  obtain ⟨q, fs, e1, e2⟩ := srcP_copy M R c e
  unfold St
  rw [bigSepL_drop hn, bigSepL_drop hm, bigSepL_take hn]
  conv_lhs => unfold Rdy
  rw [dstAny_eq, e1]
  iintro ⟨#HC, ⟨⟨⟨HtS, #HrS, HaS⟩, HtV, #HrV, ⟨%fd, Hd⟩⟩, Hrdy⟩, ⟨Hs, Hsrc⟩, Hfly, ⟨%W, HO⟩, Hp, Hr⟩ Hk
  ihave #HI1 := (Cx_dma M R κ c e 0) $$ HC
  ihave #HI2 := (Cx_dma M R κ (pl c e.1) e 1) $$ HC
  iapply (Rounds.wp_send_pointsTo 𝒱₀ ER (Rd M R) (c : Thread nD τ) none (c' := (pl c e.1 : Thread nD τ)) (src := srcM c e) (dst := dstM e)
      (sS := .dma (sIx e 0)) (sem := .dma (sIx e 1)) (q := q) (fs := fs) (κ₁ := κ (sendCell c e)) (κ₂ := κ (recvCell (pl c e.1) e))
      (r₁ := 0) (r₂ := 0) (d₁ := 0) (d₂ := 0) (fd := fd)
      (by rw [duties_dma]; exact Finset.mem_singleton_self _) (by rw [duties_dma]; exact Finset.mem_singleton_self _)
      (ixOf e) 3 NN (amount_dst e _) (amount_dma M R c _ 0) (amount_dma M R (pl c e.1) _ 0) (tallyL (payL c (n + 1)))
      (by
        obtain ⟨hl, he⟩ := List.getElem?_eq_some_iff.mp hn
        show tallyL (payL c n) = _
        unfold payL
        rw [List.drop_eq_getElem_cons hl, he, List.map_cons, tallyL, add_comm]; rfl)
      (W := W)
      (by rw [payload_send, e1])
      (by rw [payload_recv, e2])) $$ [Hs Hd HO HtS HtV]
  · isplitr; · iexact HI1
    isplitr; · iexact HI2
    isplitl [Hs]; · iexact Hs
    isplitl [Hd]; · iexact Hd
    isplitl [HO]; · iexact HO
    isplitl [HtS]; · iexact HtS
    isplitr; · iexact HrS
    isplitl [HtV]; · iexact HtV
    iexact HrV
  iintro ⟨HcS, HO⟩
  iapply Hk
  isplitr; · iexact HC
  isplitl [Hrdy]; · iexact Hrdy
  isplitl [Hsrc]; · iexact Hsrc
  isplitl [Hfly HcS HaS]
  · isplitl [Hfly]; · iexact Hfly
    unfold Fly
    isplitl [HcS] <;> iassumption
  isplitl [HO]; · iexists W; iexact HO
  isplitl [Hp] <;> iassumption

/-! ## Waits -/

set_option maxHeartbeats 1000000 in
/-- The wait for a landing, while what is still owed lies above it. -/
theorem step_recv (κ : GSem nD τ sig → ℕ) {c : Dev nD} {n m r : ℕ} (e : Ed) (hr : recvOrd[r]? = some e) (hl : ∀ e' ∈ sendOrd.drop n, ixOf e < ixOf e')
    {src dst : Memref sig .tc .vmem S16x512 .bf16} {sem : DmaSem sig} {hsrc : src.view.WordExact} {hdst : dst.view.WordExact}
    {k : PUnit → Prog (TpuEff nD τ sig (Elt F) Λ₀ .tc) α} (h3 : sem = sIx e 1) (h2 : dst = dstM e) :
    St M R κ c n m r ⊢ iprop((St M R κ c n m (r + 1) -∗ wp frame (wpE (defs₀ (F := F)) 𝒱₀ (c : Thread nD τ) none) Set.univ (k ⟨⟩) Kt)
      -∗ wp frame (wpE (defs₀ (F := F)) 𝒱₀ (c : Thread nD τ) none) Set.univ (.op (.waitDma2 sem src dst hsrc hdst) k) Kt) := by
  subst h3 h2
  have hN : (dstM e).view.dmaCredit = NN := amount_dst e (sIx e 1)
  unfold St
  rw [bigSepL_drop hr, bigSepL_take hr]
  conv_lhs => unfold Pend
  conv_rhs => lhs; unfold RDone
  iintro ⟨#HC, Hrdy, Hsrc, Hfly, ⟨%W, HO⟩, ⟨⟨Hc, Ha⟩, Hp⟩, Hr⟩ Hk
  ihave #HI := (Cx_dma M R κ c e 1) $$ HC
  iapply (Rounds.wp_wait_rest_token 𝒱₀ ER (Rd M R) (c : Thread nD τ) none (κ := κ (recvCell c e))
      (wpE_waitDma2_eq (src := src) (dst := dstM e) 𝒱₀ (c : Thread nD τ) none Set.univ) (Set.mem_univ _) (ixOf e) (O := tallyL (payL c n)) (W := W) (R := 0) (m := 0) (T := ∅)
      ((Nat.zero_add _).trans (hN.trans (expect_dma M R c e 1).symm))) $$ [Hc HO Ha]
  · isplitr; · iexact HI
    isplitl [Hc]; · rw [hN]; iexact Hc
    isplitl [HO]; · iexact HO
    isplitr
    · iapply (mayWait M R κ c _ (ixOf e) (payL c n) (pay_above c hl) (by show 2 + _ < 4; have := e.2.1.isLt; omega)); iexact HC
    iexact Ha
  iintro ⟨HO, Ha, -, Hpay⟩
  ihave Hd := (Entails.of_eq (rest_recv M R c e)) $$ Hpay
  imod (close M R (κ (recvCell c e)) (recvCell c e)) $$ [Ha] with Hs
  · isplitr; · iexact HI
    iexact Ha
  iapply Hk
  isplitr; · iexact HC
  isplitl [Hrdy]; · iexact Hrdy
  isplitl [Hsrc]; · iexact Hsrc
  isplitl [Hfly]; · iexact Hfly
  isplitl [HO]; · iexists _; iexact HO
  isplitl [Hp]; · iexact Hp
  isplitl [Hr]; · iexact Hr
  isplitl [Hs] <;> iassumption

set_option maxHeartbeats 1000000 in
/-- The wait for an own copy, at the end. -/
theorem step_wait (κ : GSem nD τ sig → ℕ) {c : Dev nD} {w : ℕ} (e : Ed) (hr : waitOrd[w]? = some e)
    {src dst : Memref sig .tc .vmem S16x512 .bf16} {sem : DmaSem sig} {hsrc : src.view.WordExact} {hdst : dst.view.WordExact}
    {k : PUnit → Prog (TpuEff nD τ sig (Elt F) Λ₀ .tc) α} (h3 : sem = sIx e 0) (h2 : dst = srcM c e) :
    Sw M R κ c w ⊢ iprop((Sw M R κ c (w + 1) -∗ wp frame (wpE (defs₀ (F := F)) 𝒱₀ (c : Thread nD τ) none) Set.univ (k ⟨⟩) Kt)
      -∗ wp frame (wpE (defs₀ (F := F)) 𝒱₀ (c : Thread nD τ) none) Set.univ (.op (.waitDma2 sem src dst hsrc hdst) k) Kt) := by
  subst h3 h2
  have hN : (srcM c e).view.dmaCredit = NN := credit_src c e
  unfold Sw
  rw [bigSepL_drop hr, bigSepL_take hr]
  conv_lhs => unfold Fly
  conv_rhs => lhs; unfold SDone
  iintro ⟨#HC, ⟨⟨Hc, Ha⟩, Hp⟩, Hr, ⟨%W, HO⟩, Hv⟩ Hk
  ihave #HI := (Cx_dma M R κ c e 0) $$ HC
  iapply (Rounds.wp_wait_rest_token 𝒱₀ ER (Rd M R) (c : Thread nD τ) none (κ := κ (sendCell c e))
      (wpE_waitDma2_eq (src := src) (dst := srcM c e) 𝒱₀ (c : Thread nD τ) none Set.univ) (Set.mem_univ _) 3 (O := 0) (W := W) (R := 0) (m := 0) (T := ∅)
      ((Nat.zero_add _).trans (hN.trans (expect_dma M R c e 0).symm))) $$ [Hc HO Ha]
  · isplitr; · iexact HI
    isplitl [Hc]; · rw [hN]; iexact Hc
    isplitl [HO]; · iexact HO
    isplitr; · rw [MayWait_zero]; iempintro
    iexact Ha
  iintro ⟨HO, Ha, -, Hpay⟩
  ihave Hd := (Entails.of_eq (rest_send M R c e)) $$ Hpay
  imod (close M R (κ (sendCell c e)) (sendCell c e)) $$ [Ha] with Hs
  · isplitr; · iexact HI
    iexact Ha
  iapply Hk
  isplitr; · iexact HC
  isplitl [Hp]; · iexact Hp
  isplitl [Hr Hs Hd]
  · isplitl [Hr]; · iexact Hr
    isplitl [Hs] <;> iassumption
  isplitl [HO]; · iexists _; iexact HO
  iexact Hv

/-! ## The barrier -/

set_option maxHeartbeats 1000000 in
theorem step_signal (κ : GSem nD τ sig → ℕ) {c : Dev nD} {b : ℕ} (j : Fin 7) (hb : (List.finRange 7)[b]? = some j)
    {p : Dev nD} {sem : Sem sig} {k' : ℕ} {k : PUnit → Prog (TpuEff nD τ sig (Elt F) Λ₀ .tc) α} (hp : p = pl c j) (h1 : sem = barrier0) (h2 : k' = 1) :
    Sb M R κ c b ⊢ iprop((Sb M R κ c (b + 1) -∗ wp frame (wpE (defs₀ (F := F)) 𝒱₀ (c : Thread nD τ) none) Set.univ (k ⟨⟩) Kt)
      -∗ wp frame (wpE (defs₀ (F := F)) 𝒱₀ (c : Thread nD τ) none) Set.univ (.op (.semSignal (p.tc : Thread nD τ) sem k') k) Kt) := by
  subst hp h1 h2
  unfold Sb
  rw [bigSepL_drop hb]
  iintro ⟨#HC, ⟨⟨Ht, #Hr, Hpay⟩, Hl⟩, ⟨%W, HO⟩⟩ Hk
  ihave #HI := (Cx_bar M R κ (pl c j)) $$ HC
  iapply (Rounds.wp_signal 𝒱₀ ER (Rd M R) (c : Thread nD τ) none (dst := (pl c j : Thread nD τ)) (sem := barrier0) (r := 0) (d := j.rev) (κ := κ (barCell (pl c j)))
      (by rw [duties_bar]; exact Finset.mem_univ _) (amount_bar M R (pl c j) j.rev) 1 (O₀ := tallyL (payBL c b)) (tallyL (payBL c (b + 1)))
      (by
        obtain ⟨hl, he⟩ := List.getElem?_eq_some_iff.mp hb
        unfold payBL
        rw [List.drop_eq_getElem_cons hl, he, List.map_cons, List.cons_append, tallyL, add_comm]; rfl)) $$ [HO Ht Hpay]
  · isplitr; · iexact HI
    isplitl [HO]; · iexact HO
    isplitl [Ht]; · iexact Ht
    isplitl [Hpay]; · rw [payload_bar]; iexact Hpay
    iexact Hr
  iintro HO
  iapply Hk
  isplitr; · iexact HC
  isplitl [Hl]; · iexact Hl
  iexists W; iexact HO

set_option maxHeartbeats 1000000 in
/-- The barrier wait: the slots of the seven others come with it. -/
theorem step_barwait (κ : GSem nD τ sig → ℕ) {c : Dev nD} {sem : Sem sig} {k' : ℕ} {k : PUnit → Prog (TpuEff nD τ sig (Elt F) Λ₀ .tc) α} (h1 : sem = barrier0) (h2 : k' = 7) :
    iprop(Sb M R κ c 7 ∗ cred (tallyAt (barCell c) 1 7) ∗ atPos ER (barCell c) 0 ∅ 0)
      ⊢ iprop(((Cx M R κ ∗ (∃ W, owes (c : Thread nD τ) (tallyL (payL c 0)) W) ∗ semVal (barCell c) 0 ∗ bigSep Finset.univ fun i => barPay (F := F) c i)
          -∗ wp frame (wpE (defs₀ (F := F)) 𝒱₀ (c : Thread nD τ) none) Set.univ (k ⟨⟩) Kt)
        -∗ wp frame (wpE (defs₀ (F := F)) 𝒱₀ (c : Thread nD τ) none) Set.univ (.op (.semWait sem k') k) Kt) := by
  subst h1 h2
  unfold Sb
  iintro ⟨⟨#HC, -, ⟨%W, HO⟩⟩, Hc, Ha⟩ Hk
  ihave #HI := (Cx_bar M R κ c) $$ HC
  iapply (Rounds.wp_wait_rest_token 𝒱₀ ER (Rd M R) (c : Thread nD τ) none (κ := κ (barCell c))
      (wpE_semWait_eq 𝒱₀ (c : Thread nD τ) none Set.univ) (Set.mem_univ _) 1 (O := tallyL (payL c 0)) (W := W) (R := 0) (m := 0) (T := ∅)
      ((Nat.zero_add _).trans (expect_bar M R c).symm)) $$ [Hc HO Ha]
  · isplitr; · iexact HI
    isplitl [Hc]; · iexact Hc
    isplitl [HO]; · iexact HO
    isplitr
    · iapply (mayWait M R κ c _ 1 (payL c 0) (pay_above c (by decide)) (by decide)); iexact HC
    iexact Ha
  iintro ⟨HO, Ha, -, Hpay⟩
  ihave Hd := (Entails.of_eq (rest_bar M R c)) $$ Hpay
  imod (close M R (κ (barCell c)) (barCell c)) $$ [Ha] with Hs
  · isplitr; · iexact HI
    iexact Ha
  iapply Hk
  isplitr; · iexact HC
  isplitl [HO]; · iexists _; iexact HO
  isplitl [Hs] <;> iassumption

end Ops

end Cert.KernelIdeal.Gen

end
-- ==== Proof.Values.lean ====
module

public import proofs.«01_k».proof.Proof.Steps

/-! # What the buffers hold, and the body's loads and stores

`M c` are the partial sums device `c` makes, `R c` the rows it finishes. A device's result is made of sixteen blocks of
16 rows: its own two as it added them, the others as they came. -/

@[expose] public section

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig ℕ (Elt F) ℕ UU ℕ

variable (M : Dev nD → C6 F) (R : Dev nD → C8 F)

/-! ## Values -/

/-- Row `16 h + r` of a chunk. -/
def hrow (h : Fin 2) (r : Fin 16) : Fin 32 := ⟨16 * h.val + r.val, by omega⟩

/-- Half `h` of `c`'s chunk: its own partial sums; those of the device that copy `i` came from; the finished rows of device `j`. -/
def own (c : Dev nD) (h : Fin 2) : Vec F S16x512 .bf16 := fun y => M c (ix2 (row6 c (hrow h (y 0))) (y 1))
@[inherit_doc own] def lnd (c : Dev nD) (i : Fin 7) (h : Fin 2) : Vec F S1x16x512 .bf16 := fun y => M (mi c i) (ix2 (row6 c (hrow h (y 1))) (y 2))
@[inherit_doc own] def lnd9 (j : Dev nD) (h : Fin 2) : Vec F S1x16x512 .bf16 := fun y => R j (ix2 (hrow h (y 1)) (y 2))

/-- The sum over devices that `c` makes of half `h` of its chunk, before and after the narrowing. -/
def sumH (c : Dev nD) : Fin 2 → FVec F S16x512 .f32
  | 0 => k0_pay26 (k0_pay25 (k0_pay24 (k0_pay23 (own M c 0) (lnd M c 3 0)) (lnd M c 0 0) (lnd M c 2 0)) (lnd M c 4 0) (lnd M c 6 0)) (lnd M c 5 0) (lnd M c 1 0)
  | 1 => k0_pay33 (k0_pay32 (k0_pay30 (k0_pay29 (own M c 1)) (lnd M c 3 1) (lnd M c 0 1)) (k0_pay31 (lnd M c 2 1)) (lnd M c 4 1) (lnd M c 6 1)) (lnd M c 5 1) (lnd M c 1 1)
@[inherit_doc sumH] def redH (c : Dev nD) : Fin 2 → FVec F S16x512 .bf16
  | 0 => k0_pay27 (k0_pay25 (k0_pay24 (k0_pay23 (own M c 0) (lnd M c 3 0)) (lnd M c 0 0) (lnd M c 2 0)) (lnd M c 4 0) (lnd M c 6 0)) (lnd M c 5 0) (lnd M c 1 0)
  | 1 => k0_pay34 (k0_pay32 (k0_pay30 (k0_pay29 (own M c 1)) (lnd M c 3 1) (lnd M c 0 1)) (k0_pay31 (lnd M c 2 1)) (lnd M c 4 1) (lnd M c 6 1)) (lnd M c 5 1) (lnd M c 1 1)

/-- The finished rows of a device's chunk. -/
def redOf (c : Dev nD) : C8 F := fun x => redH M c ⟨(x 0).val / 16, by have := idx2_lt0 x; omega⟩ (ix2 (⟨(x 0).val % 16, Nat.mod_lt _ (by decide)⟩ : Fin 16) (x 1))

/-- The chunk and the half that an element of the result lies in. -/
def chunk (x : S2x128x512.Idx) : Dev nD := ⟨4 * (x 0).val + (x 1).val / 32, by
  have h0 : (x 0).val < 2 := (x 0).isLt
  have h1 : (x 1).val < 128 := (x 1).isLt
  show _ < 8; omega⟩
@[inherit_doc chunk] def half (x : S2x128x512.Idx) : Fin 2 := ⟨(x 1).val % 32 / 16, by omega⟩

/-- Block `(j, h)` of the result of device `c`, and the result. -/
def GB (c j : Dev nD) (h : Fin 2) : FVec F S1x16x512 .f32 := if j = c then k0_pay28 (sumH M c h) else k0_pay36 (lnd9 R j h)
@[inherit_doc GB] def GG (c : Dev nD) : S2x128x512.Idx → Elt F .f32 :=
  fun x => GB M R c (chunk x) (half x) (ix3 (⟨0, Nat.one_pos⟩ : Fin 1) (⟨(x 1).val % 16, Nat.mod_lt _ (by decide)⟩ : Fin 16) (x 2))

/-! ## Reads -/

theorem emb7 (i : Fin 7) (h : Fin 2) (y : S1x16x512.Idx) : (A7.access (r7 i h)).emb y = ix3 i (hrow h (y 1)) (y 2) := by
  funext a
  apply Fin.ext
  refine (ValueKit.view_emb_slice_whole_unit_val cc0_scratch1 ![i.val, 16 * h.val, 0] S1x16x512.size (inb7 i h) y a).trans ?_
  match a with
  | ⟨0, _⟩ => have h0 : (y 0).val < 1 := (y 0).isLt; exact (by omega : i.val + (y 0).val = i.val)
  | ⟨1, _⟩ => rfl
  | ⟨2, _⟩ => exact Nat.zero_add _
theorem read7 (c : Dev nD) (i : Fin 7) (h : Fin 2) : (A7.access (r7 i h)).read (Elt F) (land7 M c) = lnd M c i h := by
  funext y
  show land7 M c ((A7.access (r7 i h)).emb y) = _
  rw [emb7]; rfl
theorem read9 (c : Dev nD) (i : Fin 7) (h : Fin 2) : (A9.access (r7 i h)).read (Elt F) (land9 R c) = lnd9 R (mi c i) h := by
  funext y
  show land9 R c ((A7.access (r7 i h)).emb y) = _
  rw [emb7]; rfl
theorem read6 (c : Dev nD) (h : Fin 2) : (A6.access (r6 c h)).read (Elt F) (M c) = own M c h := by
  funext y
  refine congrArg (M c) (funext fun a => Fin.ext ?_)
  refine (ValueKit.view_emb_slice_whole_unit_val cc0_scratch0 ![32 * c.val + 16 * h.val, 0] S16x512.size (inb6 c h) y a).trans ?_
  match a with
  | ⟨0, _⟩ => exact Nat.add_assoc _ _ _
  | ⟨1, _⟩ => exact Nat.zero_add _

/-! ## The finished rows' buffer -/

theorem write8 (c : Dev nD) (h : Fin 2) (f : C8 F) : ∀ x ∈ (r8 h).set, (A8.access (r8 h)).write (Elt F) f (redH M c h) Finset.univ x = redOf M c x := by
  intro x hx
  have hx' : x ∈ (A8.access (r8 h)).set := by rw [show (A8.access (r8 h)).set = (r8 h).set from View.set_slice_whole _ _]; exact hx
  obtain ⟨y, rfl⟩ := View.exists_emb_of_mem_set (A8.access (r8 h)) hx'
  refine (View.write_emb_of_mem (v := A8.access (r8 h)) (Val := Elt F) f (redH M c h) (Finset.mem_univ y)).trans ?_
  have e0 : ((A8.access (r8 h)).emb y 0).val = 16 * h.val + (y 0).val := src8_emb0 h y
  have e1 : (A8.access (r8 h)).emb y 1 = y 1 := Fin.ext (src8_emb1 h y)
  have hy : (y 0).val < 16 := (y 0).isLt
  show redH M c h y = redOf M c _
  unfold redOf
  have a1 : (⟨((A8.access (r8 h)).emb y 0).val / 16, by rw [e0]; omega⟩ : Fin 2) = h := Fin.ext (by show _ / 16 = _; rw [e0]; omega)
  have a2 : (⟨((A8.access (r8 h)).emb y 0).val % 16, Nat.mod_lt _ (by decide)⟩ : Fin 16) = y 0 := Fin.ext (by show _ % 16 = _; rw [e0]; omega)
  rw [a1, a2, e1]
  exact congrArg (redH M c h) (eq_ix2 y)

/-! ## The result's buffer -/

abbrev A5 : Memref sig .tc .vmem S2x128x512 .f32 := Memref.whole cc0_stg5_0

theorem inb5 (j : Dev nD) (h : Fin 2) : ∀ a, (![j.val / 4, 32 * (j.val % 4) + 16 * h.val, 0] : Fin 3 → ℕ) a + S1x16x512.size a ≤ S2x128x512.size a := by
  revert j h; decide
abbrev r5 (j : Dev nD) (h : Fin 2) : Rect S2x128x512 := Rect.unit (s := S2x128x512) ![j.val / 4, 32 * (j.val % 4) + 16 * h.val, 0] S1x16x512.size (inb5 j h)

theorem off3_eq (c : Dev nD) (h : Fin 2) : k0_off3 c (BitVec.ofNat 32 (16 * h.val)) = ![c.val / 4, 32 * (c.val % 4) + 16 * h.val, 0] := by
  revert c h; decide
theorem off5_eq (c : Dev nD) (i : Fin 7) (h : Fin 2) :
    k0_off5 c (BitVec.ofNat 32 (1 + i.val)) (BitVec.ofNat 32 (16 * h.val)) = ![(mi c i).val / 4, 32 * ((mi c i).val % 4) + 16 * h.val, 0] := by
  revert c i h; decide

theorem mem_r5 (j : Dev nD) (h : Fin 2) (x : S2x128x512.Idx) : x ∈ (r5 j h).set ↔ (chunk x, half x) = (j, h) := by
  rw [Rect.mem_set_unit, Prod.mk.injEq, Fin.ext_iff, Fin.ext_iff]
  have h0 : (x 0).val < 2 := (x 0).isLt
  have h1 : (x 1).val < 128 := (x 1).isLt
  have h2 : (x 2).val < 512 := (x 2).isLt
  have hh := h.isLt
  show (∀ a, _) ↔ 4 * (x 0).val + (x 1).val / 32 = j.val ∧ (x 1).val % 32 / 16 = h.val
  constructor
  · intro H
    have H0 : j.val / 4 ≤ (x 0).val ∧ (x 0).val < j.val / 4 + 1 := H 0
    have H1 : 32 * (j.val % 4) + 16 * h.val ≤ (x 1).val ∧ (x 1).val < 32 * (j.val % 4) + 16 * h.val + 16 := H 1
    omega
  · rintro ⟨e0, e1⟩ a
    match a with
    | ⟨0, _⟩ => exact (by omega : j.val / 4 ≤ (x 0).val ∧ (x 0).val < j.val / 4 + 1)
    | ⟨1, _⟩ => exact (by omega : 32 * (j.val % 4) + 16 * h.val ≤ (x 1).val ∧ (x 1).val < 32 * (j.val % 4) + 16 * h.val + 16)
    | ⟨2, _⟩ => exact (by omega : 0 ≤ (x 2).val ∧ (x 2).val < 0 + 512)

theorem write5 (c j : Dev nD) (h : Fin 2) (f : S2x128x512.Idx → Elt F .f32) (x : S2x128x512.Idx) :
    (A5.access (r5 j h)).write (Elt F) f (GB M R c j h) Finset.univ x = if (chunk x, half x) = (j, h) then GG M R c x else f x := by
  have hs : (A5.access (r5 j h)).set = (r5 j h).set := View.set_slice_whole _ _
  by_cases hx : (chunk x, half x) = (j, h)
  · rw [if_pos hx]
    have hx' : x ∈ (A5.access (r5 j h)).set := by rw [hs]; exact (mem_r5 j h x).2 hx
    unfold GG
    obtain ⟨hj, hh⟩ := Prod.mk.inj hx
    rw [hj, hh]
    obtain ⟨y, rfl⟩ := View.exists_emb_of_mem_set (A5.access (r5 j h)) hx'
    refine (View.write_emb_of_mem (v := A5.access (r5 j h)) (Val := Elt F) f (GB M R c j h) (Finset.mem_univ y)).trans ?_
    show GB M R c j h y = _
    have e1 : ((A5.access (r5 j h)).emb y 1).val = 32 * (j.val % 4) + 16 * h.val + (y 1).val :=
      ValueKit.view_emb_slice_whole_unit_val cc0_stg5_0 ![j.val / 4, 32 * (j.val % 4) + 16 * h.val, 0] S1x16x512.size (inb5 j h) y 1
    have e2 : (A5.access (r5 j h)).emb y 2 = y 2 := Fin.ext
      ((ValueKit.view_emb_slice_whole_unit_val cc0_stg5_0 ![j.val / 4, 32 * (j.val % 4) + 16 * h.val, 0] S1x16x512.size (inb5 j h) y 2).trans (Nat.zero_add _))
    have hy : (y 1).val < 16 := (y 1).isLt
    have hy0 : (y 0).val < 1 := (y 0).isLt
    have a1 : (⟨((A5.access (r5 j h)).emb y 1).val % 16, Nat.mod_lt _ (by decide)⟩ : Fin 16) = y 1 := Fin.ext (by show _ % 16 = _; rw [e1]; omega)
    rw [a1, e2]
    refine congrArg (GB M R c j h) ((eq_ix3 y).trans ?_)
    exact congrArg (fun z : Fin 1 => ix3 z (y 1) (y 2)) (Fin.ext (by show (y 0).val = 0; omega))
  · rw [if_neg hx]
    refine View.write_of_not_mem (v := A5.access (r5 j h)) (Val := Elt F) f (GB M R c j h) Finset.univ fun hm => hx ((mem_r5 j h x).1 ?_)
    rw [← hs]
    exact hm

/-- The blocks of the result, in the order that device `c` stores them. -/
def outL (c : Dev nD) : List (Dev nD × Fin 2) :=
  [(c, 0), (c, 1)] ++ ([3, 0, 2, 4, 6, 5, 1].map (fun i => (mi c i, 0)) ++ [3, 0, 2, 4, 6, 5, 1].map (fun i => (mi c i, 1)))

theorem outL_all (c : Dev nD) (jh : Dev nD × Fin 2) : jh ∈ outL c := by revert c jh; decide

/-- The result's buffer after `o` stores. -/
def Out (c : Dev nD) (o : ℕ) : sProp 𝕄 :=
  iprop(∃ f : S2x128x512.Idx → Elt F .f32, (A5.view.loc (c : Thread nD τ) ↦{fullShare} f) ∗ ⌜∀ x, (chunk x, half x) ∈ (outL c).take o → f x = GG M R c x⌝)

theorem Out_intro (c : Dev nD) (f : S2x128x512.Idx → Elt F .f32) : (A5.view.loc (c : Thread nD τ) ↦{fullShare} f) ⊢ Out M R c 0 := by
  unfold Out; iintro H; iexists f
  isplitl [H]; · iexact H
  ipureintro; intro x hx; cases hx

theorem Out_elim (c : Dev nD) : Out M R c 16 ⊢ (A5.view.loc (c : Thread nD τ) ↦{fullShare} GG M R c : sProp 𝕄) := by
  unfold Out; iintro ⟨%f, H, %hf⟩
  have e : f = GG M R c := funext fun x => hf x (by rw [show (outL c).take 16 = outL c from rfl]; exact outL_all c _)
  rw [e]; iexact H

section Ops
variable {α : Type} {Kt : α → sProp (MT nD τ sig ℕ (Elt F) ℕ UU ℕ)}

theorem step_load7 (κ : GSem nD τ sig → ℕ) {c : Dev nD} {n m r : ℕ} (i : Fin 7) (h : Fin 2) (hr : recvOrd[r]? = some (i, 0, h))
    {hl : A7.view.LoadsAt (r7 i h).toLoadRect} {k : ((r7 i h).shape.Idx → Elt F .bf16) → Prog (TpuEff nD τ sig (Elt F) Λ₀ .tc) α} :
    St M R κ c n m (r + 1) ⊢ iprop((St M R κ c n m (r + 1) -∗ wp frame (wpE (defs₀ (F := F)) 𝒱₀ (c : Thread nD τ) none) Set.univ (k (lnd M c i h)) Kt)
      -∗ wp frame (wpE (defs₀ (F := F)) 𝒱₀ (c : Thread nD τ) none) Set.univ (.op (.load A7 (r7 i h).toLoadRect hl) k) Kt) := by
  rw [← read7]
  unfold St
  rw [bigSepL_take hr]
  have e : RDone M R c (i, 0, h) = iprop(semVal (recvCell c (i, 0, h)) 0 ∗ ((dst7 i h).view.loc (c : Thread nD τ) ↦[(dst7 i h).view.set]{fullShare} land7 M c)) := rfl
  rw [e]
  iintro ⟨HC, H1, H2, H3, H4, H5, H6, H7, H8⟩ Hk
  iapply (wp_load_rect 𝒱₀ (c : Thread nD τ) none Set.univ (m := A7) (r := r7 i h) (S := (dst7 i h).view.set) (q := fullShare) (f := land7 M c)
    (by rw [dst7_set]; exact subset_of_eq (View.set_slice_whole _ _))) $$ [H8]
  · iexact H8
  iintro H8
  iapply Hk
  iframe

theorem step_load9 (κ : GSem nD τ sig → ℕ) {c : Dev nD} {n m r : ℕ} (i : Fin 7) (h : Fin 2) (hr : recvOrd[r]? = some (i, 1, h))
    {hl : A9.view.LoadsAt (r7 i h).toLoadRect} {k : ((r7 i h).shape.Idx → Elt F .bf16) → Prog (TpuEff nD τ sig (Elt F) Λ₀ .tc) α} :
    St M R κ c n m (r + 1) ⊢ iprop((St M R κ c n m (r + 1) -∗ wp frame (wpE (defs₀ (F := F)) 𝒱₀ (c : Thread nD τ) none) Set.univ (k (lnd9 R (mi c i) h)) Kt)
      -∗ wp frame (wpE (defs₀ (F := F)) 𝒱₀ (c : Thread nD τ) none) Set.univ (.op (.load A9 (r7 i h).toLoadRect hl) k) Kt) := by
  rw [← read9]
  unfold St
  rw [bigSepL_take hr]
  have e : RDone M R c (i, 1, h) = iprop(semVal (recvCell c (i, 1, h)) 0 ∗ ((dst9 i h).view.loc (c : Thread nD τ) ↦[(dst9 i h).view.set]{fullShare} land9 R c)) := rfl
  rw [e]
  iintro ⟨HC, H1, H2, H3, H4, H5, H6, H7, H8⟩ Hk
  iapply (wp_load_rect 𝒱₀ (c : Thread nD τ) none Set.univ (m := A9) (r := r7 i h) (S := (dst9 i h).view.set) (q := fullShare) (f := land9 R c)
    (by rw [dst9_set]; exact subset_of_eq (View.set_slice_whole _ _))) $$ [H8]
  · iexact H8
  iintro H8
  iapply Hk
  iframe

/-- The own rows of the partial sums, half `h`. -/
def Own (c : Dev nD) (h : Fin 2) : sProp 𝕄 := A6.view.loc (c : Thread nD τ) ↦[(r6 c h).set]{fullShare} M c

theorem step_own {c : Dev nD} (h : Fin 2) {off : Fin 2 → ℕ} {inb : ∀ a, off a + S16x512.size a ≤ S256x512.size a} (ho : off = ![32 * c.val + 16 * h.val, 0])
    {hl : A6.view.LoadsAt (Rect.unit (s := S256x512) off S16x512.size inb).toLoadRect}
    {k : (S16x512.Idx → Elt F .bf16) → Prog (TpuEff nD τ sig (Elt F) Λ₀ .tc) α} :
    Own M c h ⊢ iprop((Own M c h -∗ wp frame (wpE (defs₀ (F := F)) 𝒱₀ (c : Thread nD τ) none) Set.univ (k (own M c h)) Kt)
      -∗ wp frame (wpE (defs₀ (F := F)) 𝒱₀ (c : Thread nD τ) none) Set.univ (.op (.load A6 (Rect.unit (s := S256x512) off S16x512.size inb).toLoadRect hl) k) Kt) := by
  subst ho
  rw [← read6]
  unfold Own
  exact wp_load_rect 𝒱₀ (c : Thread nD τ) none Set.univ (m := A6) (r := r6 c h) (S := (r6 c h).set) (q := fullShare) (f := M c)
    (subset_of_eq (View.set_slice_whole _ _))

/-- Half `h` of the finished rows' buffer, not yet written; written. -/
def RedAny (c : Dev nD) (h : Fin 2) : sProp 𝕄 := iprop(∃ f : C8 F, A8.view.loc (c : Thread nD τ) ↦[(r8 h).set]{fullShare} f)
@[inherit_doc RedAny] def Red (c : Dev nD) (h : Fin 2) : sProp 𝕄 := A8.view.loc (c : Thread nD τ) ↦[(r8 h).set]{fullShare} redOf M c

/-- The read before the store, whose value the kernel does not use, and the store. -/
theorem step_red0 {c : Dev nD} (h : Fin 2) {hl : A8.view.LoadsAt (r8 h).toLoadRect} {k : (S16x512.Idx → Elt F .bf16) → Prog (TpuEff nD τ sig (Elt F) Λ₀ .tc) α} :
    RedAny (F := F) c h ⊢ iprop((∀ v, RedAny (F := F) c h -∗ wp frame (wpE (defs₀ (F := F)) 𝒱₀ (c : Thread nD τ) none) Set.univ (k v) Kt)
      -∗ wp frame (wpE (defs₀ (F := F)) 𝒱₀ (c : Thread nD τ) none) Set.univ (.op (.load A8 (r8 h).toLoadRect hl) k) Kt) := by
  unfold RedAny
  iintro ⟨%f, H⟩ Hk
  iapply (wp_load_rect 𝒱₀ (c : Thread nD τ) none Set.univ (m := A8) (r := r8 h) (S := (r8 h).set) (q := fullShare) (f := f)
    (subset_of_eq (View.set_slice_whole _ _))) $$ H
  iintro H
  iapply Hk; iexists f; iexact H
@[inherit_doc step_red0] theorem step_red {c : Dev nD} (h : Fin 2) {w : S16x512.Idx → Elt F .bf16} (hw : w = redH M c h) {hx : (A8.access (r8 h)).Stores Finset.univ}
    {hm : (Finset.univ : Finset (r8 h).shape.Idx) = Finset.univ ∨ ∀ a, (r8 h).stride a = 1} {k : PUnit → Prog (TpuEff nD τ sig (Elt F) Λ₀ .tc) α} :
    RedAny (F := F) c h ⊢ iprop((Red M c h -∗ wp frame (wpE (defs₀ (F := F)) 𝒱₀ (c : Thread nD τ) none) Set.univ (k ⟨⟩) Kt)
      -∗ wp frame (wpE (defs₀ (F := F)) 𝒱₀ (c : Thread nD τ) none) Set.univ (.op (.store A8 (r8 h) w Finset.univ hx hm) k) Kt) := by
  subst hw
  unfold RedAny Red
  iintro ⟨%f, H⟩ Hk
  iapply (wp_store 𝒱₀ (c : Thread nD τ) none Set.univ (m := A8) (r := r8 h) (w := redH M c h) (Mk := Finset.univ) (S := (r8 h).set) (f := f)
    (subset_of_eq (View.set_slice_whole _ _))) $$ H
  iintro H
  iapply Hk
  iapply (Entails.of_eq (pointsTo_congr (write8 M c h f))); iexact H

theorem step_out0 {c : Dev nD} {o : ℕ} {r : Rect S2x128x512} {hl : A5.view.LoadsAt r.toLoadRect} {k : (r.shape.Idx → Elt F .f32) → Prog (TpuEff nD τ sig (Elt F) Λ₀ .tc) α} :
    Out M R c o ⊢ iprop((∀ v, Out M R c o -∗ wp frame (wpE (defs₀ (F := F)) 𝒱₀ (c : Thread nD τ) none) Set.univ (k v) Kt)
      -∗ wp frame (wpE (defs₀ (F := F)) 𝒱₀ (c : Thread nD τ) none) Set.univ (.op (.load A5 r.toLoadRect hl) k) Kt) := by
  unfold Out
  iintro ⟨%f, H, %hf⟩ Hk
  iapply (wp_load_rect 𝒱₀ (c : Thread nD τ) none Set.univ (m := A5) (r := r) (S := Finset.univ) (q := fullShare) (f := f) (Finset.subset_univ _)) $$ H
  iintro H
  iapply Hk; iexists f
  isplitl [H]; · iexact H
  ipureintro; exact hf
theorem step_out {c : Dev nD} {o : ℕ} (j : Dev nD) (h : Fin 2) (ho : (outL c)[o]? = some (j, h)) {off : Fin 3 → ℕ} {inb : ∀ a, off a + S1x16x512.size a ≤ S2x128x512.size a}
    (he : off = ![j.val / 4, 32 * (j.val % 4) + 16 * h.val, 0]) {w : S1x16x512.Idx → Elt F .f32} (hw : w = GB M R c j h)
    {hx : (A5.access (Rect.unit (s := S2x128x512) off S1x16x512.size inb)).Stores Finset.univ}
    {hm : (Finset.univ : Finset (Rect.unit (s := S2x128x512) off S1x16x512.size inb).shape.Idx) = Finset.univ ∨ ∀ a, (Rect.unit (s := S2x128x512) off S1x16x512.size inb).stride a = 1}
    {k : PUnit → Prog (TpuEff nD τ sig (Elt F) Λ₀ .tc) α} :
    Out M R c o ⊢ iprop((Out M R c (o + 1) -∗ wp frame (wpE (defs₀ (F := F)) 𝒱₀ (c : Thread nD τ) none) Set.univ (k ⟨⟩) Kt)
      -∗ wp frame (wpE (defs₀ (F := F)) 𝒱₀ (c : Thread nD τ) none) Set.univ (.op (.store A5 (Rect.unit (s := S2x128x512) off S1x16x512.size inb) w Finset.univ hx hm) k) Kt) := by
  subst he hw
  unfold Out
  iintro ⟨%f, H, %hf⟩ Hk
  iapply (wp_store 𝒱₀ (c : Thread nD τ) none Set.univ (m := A5) (r := r5 j h) (w := GB M R c j h) (Mk := Finset.univ) (S := Finset.univ) (f := f) (Finset.subset_univ _)) $$ H
  iintro H
  iapply Hk; iexists _
  isplitl [H]; · iexact H
  ipureintro
  intro x hx
  refine (write5 M R c j h f x).trans ?_
  by_cases e : (chunk x, half x) = (j, h)
  · rw [if_pos e]
  · rw [if_neg e]
    rw [List.take_add_one, ho] at hx
    rcases List.mem_append.mp hx with hx | hx
    · exact hf x hx
    · exact absurd (List.mem_singleton.mp hx) e

theorem GB_own (c : Dev nD) (h : Fin 2) : k0_pay28 (sumH M c h) = GB M R c c h := by unfold GB; rw [if_pos rfl]
theorem GB_mi (c : Dev nD) (i : Fin 7) (h : Fin 2) : k0_pay36 (lnd9 R (mi c i) h) = GB M R c (mi c i) h := by
  unfold GB; rw [if_neg (show mi c i ≠ c by revert c i; decide)]

end Ops

end Cert.KernelIdeal.Gen

end
-- ==== Proof.BodyB.lean ====
module

public import Idealize.ShloMosaic.Lib.Pipeline.TalkSched
public import Idealize.ShloMosaic.Lib.SparseCore.Stream
public import proofs.«01_k».proof.Proof.Values

/-! # The copies, and the sums over devices -/

@[expose] public section

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig ℕ (Elt F) ℕ UU ℕ

variable (M : Dev nD → C6 F) (R : Dev nD → C8 F)

/-- A part of the body at the launch's buffers. -/
@[reducible] def onArgs {β : Type 1}
    (f : (arg0 : Memref sig .tc .vmem S2x128x512 .f32) → arg0.IsWhole → (arg1 : Memref sig .tc .vmem S512x256 .f32) → arg1.IsWhole
      → (arg2 : Memref sig .tc .vmem S2x128x4x64 .f32) → arg2.IsWhole → (arg3 : Memref sig .tc .vmem S2x128x4x64 .f32) → arg3.IsWhole
      → (arg4 : Memref sig .tc .vmem S256x512 .f32) → arg4.IsWhole → (arg5 : Memref sig .tc .vmem S2x128x512 .f32) → arg5.IsWhole
      → (arg6 : Memref sig .tc .vmem S256x512 .bf16) → arg6.IsWhole → (arg7 : Memref sig .tc .vmem S7x32x512 .bf16) → arg7.IsWhole
      → (arg8 : Memref sig .tc .vmem S32x512 .bf16) → arg8.IsWhole → (arg9 : Memref sig .tc .vmem S7x32x512 .bf16) → arg9.IsWhole
      → DmaSems sig S7x2 → DmaSems sig S7x2 → DmaSems sig S7x2 → DmaSems sig S7x2 → β) : β :=
  f (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) cc0_scratch4 cc0_scratch5 cc0_scratch6 cc0_scratch7

/-- A part run on device `c`. -/
abbrev wpC {α : Type} (c : Dev nD) (p : Prog (TpuEff nD τ sig (Elt F) Λ₀ .tc) α) (Kt : α → sProp 𝕄) : sProp 𝕄 :=
  wp frame (wpE (defs₀ (F := F)) 𝒱₀ (c : Thread nD τ) none) Set.univ p Kt

/-! ## The devices the body addresses -/

theorem dev1 (c : Dev nD) : (⟨k0_dev1 c, k0_dev1_lt c⟩ : Dev nD) = pl c 0 := by revert c; decide
theorem dev2 (c : Dev nD) : (⟨k0_dev2 c, k0_dev2_lt c⟩ : Dev nD) = pl c 1 := by revert c; decide
theorem dev3 (c : Dev nD) : (⟨k0_dev3 c, k0_dev3_lt c⟩ : Dev nD) = pl c 2 := by revert c; decide
theorem dev4 (c : Dev nD) : (⟨k0_dev4 c, k0_dev4_lt c⟩ : Dev nD) = pl c 3 := by revert c; decide
theorem dev5 (c : Dev nD) : (⟨k0_dev5 c, k0_dev5_lt c⟩ : Dev nD) = pl c 4 := by revert c; decide
theorem dev6 (c : Dev nD) : (⟨k0_dev6 c, k0_dev6_lt c⟩ : Dev nD) = pl c 5 := by revert c; decide
theorem dev7 (c : Dev nD) : (⟨k0_dev7 c, k0_dev7_lt c⟩ : Dev nD) = pl c 6 := by revert c; decide
theorem dev8 (c : Dev nD) : (⟨k0_dev8 c, k0_dev8_lt c⟩ : Dev nD) = pl c 1 := by revert c; decide
theorem dev9 (c : Dev nD) : (⟨k0_dev9 c, k0_dev9_lt c⟩ : Dev nD) = pl c 5 := by revert c; decide
theorem dev10 (c : Dev nD) : (⟨k0_dev10 c, k0_dev10_lt c⟩ : Dev nD) = pl c 0 := by revert c; decide
theorem dev11 (c : Dev nD) : (⟨k0_dev11 c, k0_dev11_lt c⟩ : Dev nD) = pl c 2 := by revert c; decide
theorem dev12 (c : Dev nD) : (⟨k0_dev12 c, k0_dev12_lt c⟩ : Dev nD) = pl c 4 := by revert c; decide
theorem dev13 (c : Dev nD) : (⟨k0_dev13 c, k0_dev13_lt c⟩ : Dev nD) = pl c 6 := by revert c; decide
theorem dev14 (c : Dev nD) : (⟨k0_dev14 c, k0_dev14_lt c⟩ : Dev nD) = pl c 3 := by revert c; decide
theorem dev15 (c : Dev nD) : (⟨k0_dev15 c, k0_dev15_lt c⟩ : Dev nD) = pl c 1 := by revert c; decide
theorem dev16 (c : Dev nD) : (⟨k0_dev16 c, k0_dev16_lt c⟩ : Dev nD) = pl c 5 := by revert c; decide
theorem dev17 (c : Dev nD) : (⟨k0_dev17 c, k0_dev17_lt c⟩ : Dev nD) = pl c 0 := by revert c; decide
theorem dev18 (c : Dev nD) : (⟨k0_dev18 c, k0_dev18_lt c⟩ : Dev nD) = pl c 2 := by revert c; decide
theorem dev19 (c : Dev nD) : (⟨k0_dev19 c, k0_dev19_lt c⟩ : Dev nD) = pl c 4 := by revert c; decide
theorem dev20 (c : Dev nD) : (⟨k0_dev20 c, k0_dev20_lt c⟩ : Dev nD) = pl c 6 := by revert c; decide
theorem dev21 (c : Dev nD) : (⟨k0_dev21 c, k0_dev21_lt c⟩ : Dev nD) = pl c 3 := by revert c; decide
theorem dev22 (c : Dev nD) : (⟨k0_dev22 c, k0_dev22_lt c⟩ : Dev nD) = pl c 1 := by revert c; decide
theorem dev23 (c : Dev nD) : (⟨k0_dev23 c, k0_dev23_lt c⟩ : Dev nD) = pl c 5 := by revert c; decide
theorem dev24 (c : Dev nD) : (⟨k0_dev24 c, k0_dev24_lt c⟩ : Dev nD) = pl c 0 := by revert c; decide
theorem dev25 (c : Dev nD) : (⟨k0_dev25 c, k0_dev25_lt c⟩ : Dev nD) = pl c 2 := by revert c; decide
theorem dev26 (c : Dev nD) : (⟨k0_dev26 c, k0_dev26_lt c⟩ : Dev nD) = pl c 4 := by revert c; decide
theorem dev27 (c : Dev nD) : (⟨k0_dev27 c, k0_dev27_lt c⟩ : Dev nD) = pl c 6 := by revert c; decide
theorem dev28 (c : Dev nD) : (⟨k0_dev28 c, k0_dev28_lt c⟩ : Dev nD) = pl c 3 := by revert c; decide
theorem dev29 (c : Dev nD) : (⟨k0_dev29 c, k0_dev29_lt c⟩ : Dev nD) = pl c 1 := by revert c; decide
theorem dev30 (c : Dev nD) : (⟨k0_dev30 c, k0_dev30_lt c⟩ : Dev nD) = pl c 5 := by revert c; decide
theorem dev31 (c : Dev nD) : (⟨k0_dev31 c, k0_dev31_lt c⟩ : Dev nD) = pl c 0 := by revert c; decide
theorem dev32 (c : Dev nD) : (⟨k0_dev32 c, k0_dev32_lt c⟩ : Dev nD) = pl c 2 := by revert c; decide
theorem dev33 (c : Dev nD) : (⟨k0_dev33 c, k0_dev33_lt c⟩ : Dev nD) = pl c 4 := by revert c; decide
theorem dev34 (c : Dev nD) : (⟨k0_dev34 c, k0_dev34_lt c⟩ : Dev nD) = pl c 6 := by revert c; decide
theorem dev35 (c : Dev nD) : (⟨k0_dev35 c, k0_dev35_lt c⟩ : Dev nD) = pl c 3 := by revert c; decide

/-! ## The finished rows, cut into shares for the seven copies -/

theorem Red_shares (c : Dev nD) (h : Fin 2) : Red M c h = bigSepL (([1, 5, 0, 2, 4, 6, 3] : List (Fin 7)).map (·, 1, h)) (srcP M (redOf M) c) := by
  unfold Red
  refine (pointsTo_piecesOf (ℓ := A8.view.loc (c : Thread nD τ)) (r8 h).set (redOf M c) (o := 7) (by decide) fullShare).trans ?_
  rw [bigSep_univ_eq_bigSepL ([1, 5, 0, 2, 4, 6, 3] : List (Fin 7)) (by decide) (by decide), bigSepL_map]
  show _ = bigSepL _ fun i => (src8 h).view.loc (c : Thread nD τ) ↦[(src8 h).view.set]{q8 i} redOf M c
  rw [src8_set]

theorem St_red0 (κ : GSem nD τ sig → ℕ) (c : Dev nD) (r : ℕ) : iprop(Red M c 0 ∗ St M (redOf M) κ c 14 14 r) ⊢ St M (redOf M) κ c 14 21 r := by
  rw [Red_shares]; unfold St
  iintro ⟨H, HC, H1, -, H3⟩
  isplitl [HC]; · iexact HC
  isplitl [H1]; · iexact H1
  isplitl [H]; · iexact H
  iexact H3
theorem St_red1 (κ : GSem nD τ sig → ℕ) (c : Dev nD) (r : ℕ) : iprop(Red M c 1 ∗ St M (redOf M) κ c 21 21 r) ⊢ St M (redOf M) κ c 21 28 r := by
  rw [Red_shares]; unfold St
  iintro ⟨H, HC, H1, -, H3⟩
  isplitl [HC]; · iexact HC
  isplitl [H1]; · iexact H1
  isplitl [H]; · iexact H
  iexact H3

/-! ## The parts -/

theorem part11 (κ : GSem nD τ sig → ℕ) (c : Dev nD) (a b d : BitVec 32) (Kt : PUnit → sProp 𝕄) :
    iprop((St M R κ c 0 14 0) ∗ (St M R κ c 3 14 0 -∗ Kt ⟨⟩)) ⊢ wpC c (onArgs (k0_part11 (F := F)) c a b d) Kt := by
  rw [k0_part11_eq_skeleton]; unfold k0_part11_skel
  simp only [semSignalWord, semWaitWord, Prog.lift, Prog.bind_op, Prog.bind_ret, Prog.pure_eq_ret, Prog.bind_assoc, wp_deviceId]
  iintro ⟨H, Hk⟩
  iapply (step_send M R κ (1, 0, 0) rfl rfl (dev8 c) rfl rfl rfl rfl) $$ H; iintro H
  iapply (step_send M R κ (5, 0, 0) rfl rfl (dev9 c) rfl rfl rfl rfl) $$ H; iintro H
  iapply (step_send M R κ (0, 0, 0) rfl rfl (dev10 c) rfl rfl rfl rfl) $$ H; iintro H
  rw [wp_ret]; imodintro
  iapply Hk; iexact H

theorem part12 (κ : GSem nD τ sig → ℕ) (c : Dev nD) (a b d : BitVec 32) (Kt : PUnit → sProp 𝕄) :
    iprop((St M R κ c 3 14 0) ∗ (St M R κ c 6 14 0 -∗ Kt ⟨⟩)) ⊢ wpC c (onArgs (k0_part12 (F := F)) c a b d) Kt := by
  rw [k0_part12_eq_skeleton]; unfold k0_part12_skel
  simp only [semSignalWord, semWaitWord, Prog.lift, Prog.bind_op, Prog.bind_ret, Prog.pure_eq_ret, Prog.bind_assoc, wp_deviceId]
  iintro ⟨H, Hk⟩
  iapply (step_send M R κ (2, 0, 0) rfl rfl (dev11 c) rfl rfl rfl rfl) $$ H; iintro H
  iapply (step_send M R κ (4, 0, 0) rfl rfl (dev12 c) rfl rfl rfl rfl) $$ H; iintro H
  iapply (step_send M R κ (6, 0, 0) rfl rfl (dev13 c) rfl rfl rfl rfl) $$ H; iintro H
  rw [wp_ret]; imodintro
  iapply Hk; iexact H

theorem part13 (κ : GSem nD τ sig → ℕ) (c : Dev nD) (a b d : BitVec 32) (Kt : PUnit → sProp 𝕄) :
    iprop((St M R κ c 6 14 0) ∗ (St M R κ c 9 14 0 -∗ Kt ⟨⟩)) ⊢ wpC c (onArgs (k0_part13 (F := F)) c a b d) Kt := by
  rw [k0_part13_eq_skeleton]; unfold k0_part13_skel
  simp only [semSignalWord, semWaitWord, Prog.lift, Prog.bind_op, Prog.bind_ret, Prog.pure_eq_ret, Prog.bind_assoc, wp_deviceId]
  iintro ⟨H, Hk⟩
  iapply (step_send M R κ (3, 0, 0) rfl rfl (dev14 c) rfl rfl rfl rfl) $$ H; iintro H
  iapply (step_send M R κ (1, 0, 1) rfl rfl (dev15 c) rfl rfl rfl rfl) $$ H; iintro H
  iapply (step_send M R κ (5, 0, 1) rfl rfl (dev16 c) rfl rfl rfl rfl) $$ H; iintro H
  rw [wp_ret]; imodintro
  iapply Hk; iexact H

theorem part14 (κ : GSem nD τ sig → ℕ) (c : Dev nD) (a b d : BitVec 32) (Kt : PUnit → sProp 𝕄) :
    iprop((St M R κ c 9 14 0) ∗ (St M R κ c 12 14 0 -∗ Kt ⟨⟩)) ⊢ wpC c (onArgs (k0_part14 (F := F)) c a b d) Kt := by
  rw [k0_part14_eq_skeleton]; unfold k0_part14_skel
  simp only [semSignalWord, semWaitWord, Prog.lift, Prog.bind_op, Prog.bind_ret, Prog.pure_eq_ret, Prog.bind_assoc, wp_deviceId]
  iintro ⟨H, Hk⟩
  iapply (step_send M R κ (0, 0, 1) rfl rfl (dev17 c) rfl rfl rfl rfl) $$ H; iintro H
  iapply (step_send M R κ (2, 0, 1) rfl rfl (dev18 c) rfl rfl rfl rfl) $$ H; iintro H
  iapply (step_send M R κ (4, 0, 1) rfl rfl (dev19 c) rfl rfl rfl rfl) $$ H; iintro H
  rw [wp_ret]; imodintro
  iapply Hk; iexact H

theorem part15 (κ : GSem nD τ sig → ℕ) (c : Dev nD) (a b d : BitVec 32) (Kt : FVec F S16x512 .f32 → sProp 𝕄) :
    iprop((St M R κ c 12 14 0 ∗ Own M c 0) ∗ (St M R κ c 14 14 1 ∗ Own M c 0 -∗ Kt (k0_pay23 (own M c 0) (lnd M c 3 0)))) ⊢ wpC c (onArgs (k0_part15 (F := F)) c a b d) Kt := by
  rw [k0_part15_eq_skeleton]; unfold k0_part15_skel
  simp only [semSignalWord, semWaitWord, Prog.lift, Prog.bind_op, Prog.bind_ret, Prog.pure_eq_ret, Prog.bind_assoc, wp_deviceId]
  iintro ⟨⟨H, Ho⟩, Hk⟩
  iapply (step_send M R κ (6, 0, 1) rfl rfl (dev20 c) rfl rfl rfl rfl) $$ H; iintro H
  iapply (step_send M R κ (3, 0, 1) rfl rfl (dev21 c) rfl rfl rfl rfl) $$ H; iintro H
  iapply (step_own M 0 (k0_off2_eq c)) $$ Ho; iintro Ho
  iapply (step_recv M R κ (3, 0, 0) rfl (by decide) rfl rfl) $$ H; iintro H
  iapply (step_load7 M R κ 3 0 rfl) $$ H; iintro H
  rw [wp_ret]; imodintro
  iapply Hk; isplitl [H] <;> iassumption

theorem part16 (κ : GSem nD τ sig → ℕ) (c : Dev nD) (a b d : BitVec 32) (v : FVec F S16x512 .f32) (Kt : FVec F S16x512 .f32 → sProp 𝕄) :
    iprop((St M R κ c 14 14 1) ∗ (St M R κ c 14 14 3 -∗ Kt (k0_pay24 v (lnd M c 0 0) (lnd M c 2 0)))) ⊢ wpC c (onArgs (k0_part16 (F := F)) c a b d v) Kt := by
  rw [k0_part16_eq_skeleton]; unfold k0_part16_skel
  simp only [semSignalWord, semWaitWord, Prog.lift, Prog.bind_op, Prog.bind_ret, Prog.pure_eq_ret, Prog.bind_assoc, wp_deviceId]
  iintro ⟨H, Hk⟩
  iapply (step_recv M R κ (0, 0, 0) rfl (by decide) rfl rfl) $$ H; iintro H
  iapply (step_load7 M R κ 0 0 rfl) $$ H; iintro H
  iapply (step_recv M R κ (2, 0, 0) rfl (by decide) rfl rfl) $$ H; iintro H
  iapply (step_load7 M R κ 2 0 rfl) $$ H; iintro H
  rw [wp_ret]; imodintro
  iapply Hk; iexact H

theorem part17 (κ : GSem nD τ sig → ℕ) (c : Dev nD) (a b : BitVec 32) (v : FVec F S16x512 .f32) (Kt : (Σ' (_ : FVec F S16x512 .f32), Vec F S1x16x512 .bf16) → sProp 𝕄) :
    iprop((St M R κ c 14 14 3) ∗ (St M R κ c 14 14 6 -∗ Kt ⟨k0_pay25 v (lnd M c 4 0) (lnd M c 6 0), lnd M c 5 0⟩)) ⊢ wpC c (onArgs (k0_part17 (F := F)) c a b v) Kt := by
  rw [k0_part17_eq_skeleton]; unfold k0_part17_skel
  simp only [semSignalWord, semWaitWord, Prog.lift, Prog.bind_op, Prog.bind_ret, Prog.pure_eq_ret, Prog.bind_assoc, wp_deviceId]
  iintro ⟨H, Hk⟩
  iapply (step_recv M R κ (4, 0, 0) rfl (by decide) rfl rfl) $$ H; iintro H
  iapply (step_load7 M R κ 4 0 rfl) $$ H; iintro H
  iapply (step_recv M R κ (6, 0, 0) rfl (by decide) rfl rfl) $$ H; iintro H
  iapply (step_load7 M R κ 6 0 rfl) $$ H; iintro H
  iapply (step_recv M R κ (5, 0, 0) rfl (by decide) rfl rfl) $$ H; iintro H
  iapply (step_load7 M R κ 5 0 rfl) $$ H; iintro H
  rw [wp_ret]; imodintro
  iapply Hk; iexact H

theorem part18 (κ : GSem nD τ sig → ℕ) (c : Dev nD) (a b : BitVec 32) (v : FVec F S16x512 .f32) (w : Vec F S1x16x512 .bf16) (hw : k0_pay27 v w (lnd M c 1 0) = redH M c 0) (Kt : FVec F S16x512 .f32 → sProp 𝕄) :
    iprop((St M (redOf M) κ c 14 14 6 ∗ RedAny c 0) ∗ (St M (redOf M) κ c 15 21 7 -∗ Kt (k0_pay26 v w (lnd M c 1 0)))) ⊢ wpC c (onArgs (k0_part18 (F := F)) c a b v w) Kt := by
  rw [k0_part18_eq_skeleton]; unfold k0_part18_skel
  simp only [semSignalWord, semWaitWord, Prog.lift, Prog.bind_op, Prog.bind_ret, Prog.pure_eq_ret, Prog.bind_assoc, wp_deviceId]
  iintro ⟨⟨H, Hr⟩, Hk⟩
  iapply (step_recv M (redOf M) κ (1, 0, 0) rfl (by decide) rfl rfl) $$ H; iintro H
  iapply (step_load7 M (redOf M) κ 1 0 rfl) $$ H; iintro H
  iapply (step_red0 0) $$ Hr; iintro %v0 Hr
  iapply (step_red M 0 hw) $$ Hr; iintro Hr
  icombine Hr H as H
  ihave H := (St_red0 M κ c 7) $$ H
  iapply (step_send M (redOf M) κ (1, 1, 0) rfl rfl (dev22 c) rfl rfl rfl rfl) $$ H; iintro H
  rw [wp_ret]; imodintro
  iapply Hk; iexact H

theorem part19 (κ : GSem nD τ sig → ℕ) (c : Dev nD) (a b d : BitVec 32) (Kt : PUnit → sProp 𝕄) :
    iprop((St M R κ c 15 21 7) ∗ (St M R κ c 18 21 7 -∗ Kt ⟨⟩)) ⊢ wpC c (onArgs (k0_part19 (F := F)) c a b d) Kt := by
  rw [k0_part19_eq_skeleton]; unfold k0_part19_skel
  simp only [semSignalWord, semWaitWord, Prog.lift, Prog.bind_op, Prog.bind_ret, Prog.pure_eq_ret, Prog.bind_assoc, wp_deviceId]
  iintro ⟨H, Hk⟩
  iapply (step_send M R κ (5, 1, 0) rfl rfl (dev23 c) rfl rfl rfl rfl) $$ H; iintro H
  iapply (step_send M R κ (0, 1, 0) rfl rfl (dev24 c) rfl rfl rfl rfl) $$ H; iintro H
  iapply (step_send M R κ (2, 1, 0) rfl rfl (dev25 c) rfl rfl rfl rfl) $$ H; iintro H
  rw [wp_ret]; imodintro
  iapply Hk; iexact H

theorem part20 (κ : GSem nD τ sig → ℕ) (c : Dev nD) (a b d : BitVec 32) (Kt : PUnit → sProp 𝕄) :
    iprop((St M R κ c 18 21 7) ∗ (St M R κ c 20 21 7 -∗ Kt ⟨⟩)) ⊢ wpC c (onArgs (k0_part20 (F := F)) c a b d) Kt := by
  rw [k0_part20_eq_skeleton]; unfold k0_part20_skel
  simp only [semSignalWord, semWaitWord, Prog.lift, Prog.bind_op, Prog.bind_ret, Prog.pure_eq_ret, Prog.bind_assoc, wp_deviceId]
  iintro ⟨H, Hk⟩
  iapply (step_send M R κ (4, 1, 0) rfl rfl (dev26 c) rfl rfl rfl rfl) $$ H; iintro H
  iapply (step_send M R κ (6, 1, 0) rfl rfl (dev27 c) rfl rfl rfl rfl) $$ H; iintro H
  rw [wp_ret]; imodintro
  iapply Hk; iexact H

theorem part21 (κ : GSem nD τ sig → ℕ) (c : Dev nD) (a b : BitVec 32) (v : FVec F S16x512 .f32) (hv : k0_pay28 v = GB M R c c 0) (Kt : FVec F S16x512 .f32 → sProp 𝕄) :
    iprop((St M R κ c 20 21 7 ∗ Own M c 1 ∗ Out M R c 0) ∗ (St M R κ c 21 21 7 ∗ Own M c 1 ∗ Out M R c 1 -∗ Kt (k0_pay29 (own M c 1)))) ⊢ wpC c (onArgs (k0_part21 (F := F)) c a b v) Kt := by
  rw [k0_part21_eq_skeleton]; unfold k0_part21_skel
  simp only [semSignalWord, semWaitWord, Prog.lift, Prog.bind_op, Prog.bind_ret, Prog.pure_eq_ret, Prog.bind_assoc, wp_deviceId]
  iintro ⟨⟨H, Ho, Hu⟩, Hk⟩
  iapply (step_send M R κ (3, 1, 0) rfl rfl (dev28 c) rfl rfl rfl rfl) $$ H; iintro H
  iapply (step_out0 M R) $$ Hu; iintro %v0 Hu
  iapply (step_out M R c 0 rfl (off3_eq c 0) hv) $$ Hu; iintro Hu
  iapply (step_own M 1 (k0_off4_eq c)) $$ Ho; iintro Ho
  rw [wp_ret]; imodintro
  iapply Hk; iframe

theorem part22 (κ : GSem nD τ sig → ℕ) (c : Dev nD) (a b : BitVec 32) (v : FVec F S16x512 .f32) (Kt : (Σ' (_ : FVec F S16x512 .f32), FVec F S16x512 .f32) → sProp 𝕄) :
    iprop((St M R κ c 21 21 7) ∗ (St M R κ c 21 21 10 -∗ Kt ⟨k0_pay30 v (lnd M c 3 1) (lnd M c 0 1), k0_pay31 (lnd M c 2 1)⟩)) ⊢ wpC c (onArgs (k0_part22 (F := F)) c a b v) Kt := by
  rw [k0_part22_eq_skeleton]; unfold k0_part22_skel
  simp only [semSignalWord, semWaitWord, Prog.lift, Prog.bind_op, Prog.bind_ret, Prog.pure_eq_ret, Prog.bind_assoc, wp_deviceId]
  iintro ⟨H, Hk⟩
  iapply (step_recv M R κ (3, 0, 1) rfl (by decide) rfl rfl) $$ H; iintro H
  iapply (step_load7 M R κ 3 1 rfl) $$ H; iintro H
  iapply (step_recv M R κ (0, 0, 1) rfl (by decide) rfl rfl) $$ H; iintro H
  iapply (step_load7 M R κ 0 1 rfl) $$ H; iintro H
  iapply (step_recv M R κ (2, 0, 1) rfl (by decide) rfl rfl) $$ H; iintro H
  iapply (step_load7 M R κ 2 1 rfl) $$ H; iintro H
  rw [wp_ret]; imodintro
  iapply Hk; iexact H

theorem part23 (κ : GSem nD τ sig → ℕ) (c : Dev nD) (a b d : BitVec 32) (v w : FVec F S16x512 .f32) (Kt : FVec F S16x512 .f32 → sProp 𝕄) :
    iprop((St M R κ c 21 21 10) ∗ (St M R κ c 21 21 12 -∗ Kt (k0_pay32 v w (lnd M c 4 1) (lnd M c 6 1)))) ⊢ wpC c (onArgs (k0_part23 (F := F)) c a b d v w) Kt := by
  rw [k0_part23_eq_skeleton]; unfold k0_part23_skel
  simp only [semSignalWord, semWaitWord, Prog.lift, Prog.bind_op, Prog.bind_ret, Prog.pure_eq_ret, Prog.bind_assoc, wp_deviceId]
  iintro ⟨H, Hk⟩
  iapply (step_recv M R κ (4, 0, 1) rfl (by decide) rfl rfl) $$ H; iintro H
  iapply (step_load7 M R κ 4 1 rfl) $$ H; iintro H
  iapply (step_recv M R κ (6, 0, 1) rfl (by decide) rfl rfl) $$ H; iintro H
  iapply (step_load7 M R κ 6 1 rfl) $$ H; iintro H
  rw [wp_ret]; imodintro
  iapply Hk; iexact H

theorem part24 (κ : GSem nD τ sig → ℕ) (c : Dev nD) (a b : BitVec 32) (v : FVec F S16x512 .f32) (hw : k0_pay34 v (lnd M c 5 1) (lnd M c 1 1) = redH M c 1) (Kt : FVec F S16x512 .f32 → sProp 𝕄) :
    iprop((St M (redOf M) κ c 21 21 12 ∗ RedAny c 1) ∗ (St M (redOf M) κ c 21 28 14 -∗ Kt (k0_pay33 v (lnd M c 5 1) (lnd M c 1 1)))) ⊢ wpC c (onArgs (k0_part24 (F := F)) c a b v) Kt := by
  rw [k0_part24_eq_skeleton]; unfold k0_part24_skel
  simp only [semSignalWord, semWaitWord, Prog.lift, Prog.bind_op, Prog.bind_ret, Prog.pure_eq_ret, Prog.bind_assoc, wp_deviceId]
  iintro ⟨⟨H, Hr⟩, Hk⟩
  iapply (step_recv M (redOf M) κ (5, 0, 1) rfl (by decide) rfl rfl) $$ H; iintro H
  iapply (step_load7 M (redOf M) κ 5 1 rfl) $$ H; iintro H
  iapply (step_recv M (redOf M) κ (1, 0, 1) rfl (by decide) rfl rfl) $$ H; iintro H
  iapply (step_load7 M (redOf M) κ 1 1 rfl) $$ H; iintro H
  iapply (step_red0 1) $$ Hr; iintro %v0 Hr
  iapply (step_red M 1 hw) $$ Hr; iintro Hr
  icombine Hr H as H
  ihave H := (St_red1 M κ c 14) $$ H
  rw [wp_ret]; imodintro
  iapply Hk; iexact H

theorem part25 (κ : GSem nD τ sig → ℕ) (c : Dev nD) (a b d : BitVec 32) (Kt : PUnit → sProp 𝕄) :
    iprop((St M R κ c 21 28 14) ∗ (St M R κ c 24 28 14 -∗ Kt ⟨⟩)) ⊢ wpC c (onArgs (k0_part25 (F := F)) c a b d) Kt := by
  rw [k0_part25_eq_skeleton]; unfold k0_part25_skel
  simp only [semSignalWord, semWaitWord, Prog.lift, Prog.bind_op, Prog.bind_ret, Prog.pure_eq_ret, Prog.bind_assoc, wp_deviceId]
  iintro ⟨H, Hk⟩
  iapply (step_send M R κ (1, 1, 1) rfl rfl (dev29 c) rfl rfl rfl rfl) $$ H; iintro H
  iapply (step_send M R κ (5, 1, 1) rfl rfl (dev30 c) rfl rfl rfl rfl) $$ H; iintro H
  iapply (step_send M R κ (0, 1, 1) rfl rfl (dev31 c) rfl rfl rfl rfl) $$ H; iintro H
  rw [wp_ret]; imodintro
  iapply Hk; iexact H

theorem part26 (κ : GSem nD τ sig → ℕ) (c : Dev nD) (a b : BitVec 32) (Kt : BitVec 32 → sProp 𝕄) :
    iprop((St M R κ c 24 28 14) ∗ (St M R κ c 27 28 14 -∗ Kt (1#32))) ⊢ wpC c (onArgs (k0_part26 (F := F)) c a b) Kt := by
  rw [k0_part26_eq_skeleton]; unfold k0_part26_skel
  simp only [semSignalWord, semWaitWord, Prog.lift, Prog.bind_op, Prog.bind_ret, Prog.pure_eq_ret, Prog.bind_assoc, wp_deviceId]
  iintro ⟨H, Hk⟩
  iapply (step_send M R κ (2, 1, 1) rfl rfl (dev32 c) rfl rfl rfl rfl) $$ H; iintro H
  iapply (step_send M R κ (4, 1, 1) rfl rfl (dev33 c) rfl rfl rfl rfl) $$ H; iintro H
  iapply (step_send M R κ (6, 1, 1) rfl rfl (dev34 c) rfl rfl rfl rfl) $$ H; iintro H
  rw [wp_ret]; imodintro
  iapply Hk; iexact H

theorem part27 (κ : GSem nD τ sig → ℕ) (c : Dev nD) (a b d : BitVec 32) (v : FVec F S16x512 .f32) (e : BitVec 32) (hv : k0_pay28 v = GB M R c c 1) (Kt : PUnit → sProp 𝕄) :
    iprop((St M R κ c 27 28 14 ∗ Out M R c 1) ∗ (St M R κ c 28 28 14 ∗ Out M R c 2 -∗ Kt ⟨⟩)) ⊢ wpC c (onArgs (k0_part27 (F := F)) c a b d v e) Kt := by
  rw [k0_part27_eq_skeleton]; unfold k0_part27_skel
  simp only [semSignalWord, semWaitWord, Prog.lift, Prog.bind_op, Prog.bind_ret, Prog.pure_eq_ret, Prog.bind_assoc, wp_deviceId]
  iintro ⟨⟨H, Hu⟩, Hk⟩
  iapply (step_send M R κ (3, 1, 1) rfl rfl (dev35 c) rfl rfl rfl rfl) $$ H; iintro H
  iapply (step_out0 M R) $$ Hu; iintro %v0 Hu
  iapply (step_out M R c 1 rfl (off3_eq c 1) hv) $$ Hu; iintro Hu
  rw [wp_ret]; imodintro
  iapply Hk; isplitl [H] <;> iassumption

end Cert.KernelIdeal.Gen

end
-- ==== Proof.BodyA.lean ====
module

public import proofs.«01_k».proof.Proof.BodyB

/-! # The barrier, and the partial sums that a device makes -/

@[expose] public section

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig ℕ (Elt F) ℕ UU ℕ

variable (M : Dev nD → C6 F) (R : Dev nD → C8 F)

abbrev A0 : Memref sig .tc .vmem S2x128x512 .f32 := Memref.whole cc0_stg0_0
abbrev A1 : Memref sig .tc .vmem S512x256 .f32 := Memref.whole cc0_stg1_0
abbrev A2 : Memref sig .tc .vmem S2x128x4x64 .f32 := Memref.whole cc0_stg2_0
abbrev A3 : Memref sig .tc .vmem S2x128x4x64 .f32 := Memref.whole cc0_stg3_0
abbrev A4 : Memref sig .tc .vmem S256x512 .f32 := Memref.whole cc0_stg4_0

/-! ## Values -/

/-- Batch entry `b`, head `h` of the keys or the values. -/
def hd (k : Vec F S2x128x4x64 .f32) (b : Fin 2) (h : Fin 4) : Vec F S1x128x1x64 .f32 := fun y => k (ix4 b (y 1) h (y 3))

/-- The scores' mask, as the body makes it. -/
def maskV : FVec F S128x128 .f32 := k0_pay8 (k0_pay4 k0_pay2 k0_pay3) (k0_pay6 k0_pay2 k0_pay3) k0_pay7 4#32

/-- Four heads of batch entry 0 side by side, and the partial sums that a device makes of its operands. -/
def ctx0 (q : FVec F S256x256 .f32) (kk vv : Vec F S2x128x4x64 .f32) : FVec F S128x256 .f32 :=
  k0_pay17 (k0_pay9 q (k0_pay4 k0_pay2 k0_pay3) (k0_pay6 k0_pay2 k0_pay3) k0_pay7 4#32 (hd kk 0 0) (hd vv 0 0))
    (k0_pay12 maskV (k0_pay10 q) (k0_pay11 (hd kk 0 1)) (hd vv 0 1)) (k0_pay13 q maskV (hd kk 0 2) (hd vv 0 2))
    (k0_pay14 (hd vv 0 3)) (k0_pay15 q maskV (hd kk 0 3)) (k0_pay16 q maskV (hd kk 0 3))
@[inherit_doc ctx0] def mineOf (x : Vec F S2x128x512 .f32) (wq : Vec F S512x256 .f32) (kk vv : Vec F S2x128x4x64 .f32) (wo : Vec F S256x512 .f32) : Vec F S256x512 .bf16 :=
  k0_pay22 (k0_pay1 x wq) maskV (ctx0 (k0_pay1 x wq) kk vv)
    (k0_pay18 (k0_pay1 x wq) maskV (hd kk 1 0) (hd vv 1 0)) (k0_pay19 (k0_pay1 x wq) maskV (hd kk 1 1) (hd vv 1 1))
    (k0_pay20 (k0_pay1 x wq)) (k0_pay21 (hd kk 1 2)) (hd vv 1 2) (hd kk 1 3) (hd vv 1 3) wo

theorem read0 (inb) (x : S2x128x512.Idx → Elt F .f32) : (A0.access (Rect.unit (s := S2x128x512) ![0, 0, 0] S2x128x512.size inb)).read (Elt F) x = x := by
  funext y
  refine congrArg x (funext fun a => Fin.ext ?_)
  refine (ValueKit.view_emb_slice_whole_unit_val cc0_stg0_0 ![0, 0, 0] S2x128x512.size inb y a).trans ?_
  match a with
  | ⟨0, _⟩ => exact Nat.zero_add _
  | ⟨1, _⟩ => exact Nat.zero_add _
  | ⟨2, _⟩ => exact Nat.zero_add _
theorem read1 (inb) (x : S512x256.Idx → Elt F .f32) : (A1.access (Rect.unit (s := S512x256) ![0, 0] S512x256.size inb)).read (Elt F) x = x := by
  funext y
  refine congrArg x (funext fun a => Fin.ext ?_)
  refine (ValueKit.view_emb_slice_whole_unit_val cc0_stg1_0 ![0, 0] S512x256.size inb y a).trans ?_
  match a with
  | ⟨0, _⟩ => exact Nat.zero_add _
  | ⟨1, _⟩ => exact Nat.zero_add _
theorem read4 (inb) (x : S256x512.Idx → Elt F .f32) : (A4.access (Rect.unit (s := S256x512) ![0, 0] S256x512.size inb)).read (Elt F) x = x := by
  funext y
  refine congrArg x (funext fun a => Fin.ext ?_)
  refine (ValueKit.view_emb_slice_whole_unit_val cc0_stg4_0 ![0, 0] S256x512.size inb y a).trans ?_
  match a with
  | ⟨0, _⟩ => exact Nat.zero_add _
  | ⟨1, _⟩ => exact Nat.zero_add _
theorem emb_2 (b : Fin 2) (h : Fin 4) (inb) (y : S1x128x1x64.Idx) :
    (((Memref.whole cc0_stg2_0).access (Rect.unit (s := S2x128x4x64) ![b.val, 0, h.val, 0] S1x128x1x64.size inb)).emb y : S2x128x4x64.Idx) = ix4 b (y 1) h (y 3) := by
  funext a
  apply Fin.ext
  refine (ValueKit.view_emb_slice_whole_unit_val cc0_stg2_0 ![b.val, 0, h.val, 0] S1x128x1x64.size inb y a).trans ?_
  match a with
  | ⟨0, _⟩ => have h0 : (y 0).val < 1 := (y 0).isLt; exact (by omega : b.val + (y 0).val = b.val)
  | ⟨1, _⟩ => exact Nat.zero_add _
  | ⟨2, _⟩ => have h0 : (y 2).val < 1 := (y 2).isLt; exact (by omega : h.val + (y 2).val = h.val)
  | ⟨3, _⟩ => exact Nat.zero_add _
theorem emb_3 (b : Fin 2) (h : Fin 4) (inb) (y : S1x128x1x64.Idx) :
    (((Memref.whole cc0_stg3_0).access (Rect.unit (s := S2x128x4x64) ![b.val, 0, h.val, 0] S1x128x1x64.size inb)).emb y : S2x128x4x64.Idx) = ix4 b (y 1) h (y 3) := by
  funext a
  apply Fin.ext
  refine (ValueKit.view_emb_slice_whole_unit_val cc0_stg3_0 ![b.val, 0, h.val, 0] S1x128x1x64.size inb y a).trans ?_
  match a with
  | ⟨0, _⟩ => have h0 : (y 0).val < 1 := (y 0).isLt; exact (by omega : b.val + (y 0).val = b.val)
  | ⟨1, _⟩ => exact Nat.zero_add _
  | ⟨2, _⟩ => have h0 : (y 2).val < 1 := (y 2).isLt; exact (by omega : h.val + (y 2).val = h.val)
  | ⟨3, _⟩ => exact Nat.zero_add _
theorem write6 (inb) (f w : S256x512.Idx → Elt F .bf16) : (A6.access (Rect.unit (s := S256x512) ![0, 0] S256x512.size inb)).write (Elt F) f w Finset.univ = w := by
  funext y
  have e : (A6.access (Rect.unit (s := S256x512) ![0, 0] S256x512.size inb)).emb y = y := funext fun a => Fin.ext (by
    refine (ValueKit.view_emb_slice_whole_unit_val cc0_scratch0 ![0, 0] S256x512.size inb y a).trans ?_
    match a with
    | ⟨0, _⟩ => exact Nat.zero_add _
    | ⟨1, _⟩ => exact Nat.zero_add _)
  have := View.write_emb_of_mem (v := A6.access (Rect.unit (s := S256x512) ![0, 0] S256x512.size inb)) (Val := Elt F) f w (Finset.mem_univ y)
  rw [e] at this
  exact this

/-! ## The operands -/

/-- The operands' buffers on device `c`. -/
def Ins (c : Dev nD) (x : Vec F S2x128x512 .f32) (wq : Vec F S512x256 .f32) (kk vv : Vec F S2x128x4x64 .f32) (wo : Vec F S256x512 .f32) : sProp 𝕄 :=
  iprop((A0.view.loc (c : Thread nD τ) ↦{fullShare} x) ∗ (A1.view.loc (c : Thread nD τ) ↦{fullShare} wq) ∗ (A2.view.loc (c : Thread nD τ) ↦{fullShare} kk)
    ∗ (A3.view.loc (c : Thread nD τ) ↦{fullShare} vv) ∗ (A4.view.loc (c : Thread nD τ) ↦{fullShare} wo))

/-- The partial sums' buffer, before and after its store. -/
def MineAny (c : Dev nD) : sProp 𝕄 := iprop(∃ f : C6 F, A6.view.loc (c : Thread nD τ) ↦{fullShare} f)
@[inherit_doc MineAny] def Mine (c : Dev nD) : sProp 𝕄 := A6.view.loc (c : Thread nD τ) ↦{fullShare} M c

/-- What the barrier wait brings. -/
def Bar (κ : GSem nD τ sig → ℕ) (c : Dev nD) : sProp 𝕄 :=
  iprop(Cx M R κ ∗ (∃ W, owes (c : Thread nD τ) (TalkSites.tallyL (payL c 0)) W) ∗ semVal (barCell c) 0 ∗ bigSep Finset.univ fun i => barPay (F := F) c i)

section Ops
variable {α : Type} {Kt : α → sProp (MT nD τ sig ℕ (Elt F) ℕ UU ℕ)} {c : Dev nD}
  {x : Vec F S2x128x512 .f32} {wq : Vec F S512x256 .f32} {kk vv : Vec F S2x128x4x64 .f32} {wo : Vec F S256x512 .f32}

theorem step_x {inb} {hl : A0.view.LoadsAt (Rect.unit (s := S2x128x512) ![0, 0, 0] S2x128x512.size inb).toLoadRect}
    {k : (S2x128x512.Idx → Elt F .f32) → Prog (TpuEff nD τ sig (Elt F) Λ₀ .tc) α} :
    Ins c x wq kk vv wo ⊢ iprop((Ins c x wq kk vv wo -∗ wp frame (wpE (defs₀ (F := F)) 𝒱₀ (c : Thread nD τ) none) Set.univ (k x) Kt)
      -∗ wp frame (wpE (defs₀ (F := F)) 𝒱₀ (c : Thread nD τ) none) Set.univ (.op (.load A0 (Rect.unit (s := S2x128x512) ![0, 0, 0] S2x128x512.size inb).toLoadRect hl) k) Kt) := by
  have e : (A0.access (Rect.unit (s := S2x128x512) ![0, 0, 0] S2x128x512.size inb)).read (Elt F) x = x := read0 inb x
  unfold Ins
  iintro ⟨H0, H1, H2, H3, H4⟩ Hk
  iapply (wp_load_rect 𝒱₀ (c : Thread nD τ) none Set.univ (m := A0) (r := Rect.unit (s := S2x128x512) ![0, 0, 0] S2x128x512.size inb) (S := Finset.univ) (q := fullShare) (f := x)
    (Finset.subset_univ _)) $$ H0
  iintro H0
  rw [e]
  iapply Hk
  iframe

theorem step_wq {inb} {hl : A1.view.LoadsAt (Rect.unit (s := S512x256) ![0, 0] S512x256.size inb).toLoadRect}
    {k : (S512x256.Idx → Elt F .f32) → Prog (TpuEff nD τ sig (Elt F) Λ₀ .tc) α} :
    Ins c x wq kk vv wo ⊢ iprop((Ins c x wq kk vv wo -∗ wp frame (wpE (defs₀ (F := F)) 𝒱₀ (c : Thread nD τ) none) Set.univ (k wq) Kt)
      -∗ wp frame (wpE (defs₀ (F := F)) 𝒱₀ (c : Thread nD τ) none) Set.univ (.op (.load A1 (Rect.unit (s := S512x256) ![0, 0] S512x256.size inb).toLoadRect hl) k) Kt) := by
  have e : (A1.access (Rect.unit (s := S512x256) ![0, 0] S512x256.size inb)).read (Elt F) wq = wq := read1 inb wq
  unfold Ins
  iintro ⟨H0, H1, H2, H3, H4⟩ Hk
  iapply (wp_load_rect 𝒱₀ (c : Thread nD τ) none Set.univ (m := A1) (r := Rect.unit (s := S512x256) ![0, 0] S512x256.size inb) (S := Finset.univ) (q := fullShare) (f := wq)
    (Finset.subset_univ _)) $$ H1
  iintro H1
  rw [e]
  iapply Hk
  iframe

theorem step_wo {inb} {hl : A4.view.LoadsAt (Rect.unit (s := S256x512) ![0, 0] S256x512.size inb).toLoadRect}
    {k : (S256x512.Idx → Elt F .f32) → Prog (TpuEff nD τ sig (Elt F) Λ₀ .tc) α} :
    Ins c x wq kk vv wo ⊢ iprop((Ins c x wq kk vv wo -∗ wp frame (wpE (defs₀ (F := F)) 𝒱₀ (c : Thread nD τ) none) Set.univ (k wo) Kt)
      -∗ wp frame (wpE (defs₀ (F := F)) 𝒱₀ (c : Thread nD τ) none) Set.univ (.op (.load A4 (Rect.unit (s := S256x512) ![0, 0] S256x512.size inb).toLoadRect hl) k) Kt) := by
  have e : (A4.access (Rect.unit (s := S256x512) ![0, 0] S256x512.size inb)).read (Elt F) wo = wo := read4 inb wo
  unfold Ins
  iintro ⟨H0, H1, H2, H3, H4⟩ Hk
  iapply (wp_load_rect 𝒱₀ (c : Thread nD τ) none Set.univ (m := A4) (r := Rect.unit (s := S256x512) ![0, 0] S256x512.size inb) (S := Finset.univ) (q := fullShare) (f := wo)
    (Finset.subset_univ _)) $$ H4
  iintro H4
  rw [e]
  iapply Hk
  iframe

theorem step_k (b : Fin 2) (h : Fin 4) {inb} {hl : A2.view.LoadsAt (Rect.unit (s := S2x128x4x64) ![b.val, 0, h.val, 0] S1x128x1x64.size inb).toLoadRect}
    {k : (S1x128x1x64.Idx → Elt F .f32) → Prog (TpuEff nD τ sig (Elt F) Λ₀ .tc) α} :
    Ins c x wq kk vv wo ⊢ iprop((Ins c x wq kk vv wo -∗ wp frame (wpE (defs₀ (F := F)) 𝒱₀ (c : Thread nD τ) none) Set.univ (k (hd kk b h)) Kt)
      -∗ wp frame (wpE (defs₀ (F := F)) 𝒱₀ (c : Thread nD τ) none) Set.univ (.op (.load A2 (Rect.unit (s := S2x128x4x64) ![b.val, 0, h.val, 0] S1x128x1x64.size inb).toLoadRect hl) k) Kt) := by
  have e : (A2.access (Rect.unit (s := S2x128x4x64) ![b.val, 0, h.val, 0] S1x128x1x64.size inb)).read (Elt F) kk = (hd kk b h) := funext fun y => congrArg kk (emb_2 b h inb y)
  unfold Ins
  iintro ⟨H0, H1, H2, H3, H4⟩ Hk
  iapply (wp_load_rect 𝒱₀ (c : Thread nD τ) none Set.univ (m := A2) (r := Rect.unit (s := S2x128x4x64) ![b.val, 0, h.val, 0] S1x128x1x64.size inb) (S := Finset.univ) (q := fullShare) (f := kk)
    (Finset.subset_univ _)) $$ H2
  iintro H2
  rw [e]
  iapply Hk
  iframe

theorem step_v (b : Fin 2) (h : Fin 4) {inb} {hl : A3.view.LoadsAt (Rect.unit (s := S2x128x4x64) ![b.val, 0, h.val, 0] S1x128x1x64.size inb).toLoadRect}
    {k : (S1x128x1x64.Idx → Elt F .f32) → Prog (TpuEff nD τ sig (Elt F) Λ₀ .tc) α} :
    Ins c x wq kk vv wo ⊢ iprop((Ins c x wq kk vv wo -∗ wp frame (wpE (defs₀ (F := F)) 𝒱₀ (c : Thread nD τ) none) Set.univ (k (hd vv b h)) Kt)
      -∗ wp frame (wpE (defs₀ (F := F)) 𝒱₀ (c : Thread nD τ) none) Set.univ (.op (.load A3 (Rect.unit (s := S2x128x4x64) ![b.val, 0, h.val, 0] S1x128x1x64.size inb).toLoadRect hl) k) Kt) := by
  have e : (A3.access (Rect.unit (s := S2x128x4x64) ![b.val, 0, h.val, 0] S1x128x1x64.size inb)).read (Elt F) vv = (hd vv b h) := funext fun y => congrArg vv (emb_3 b h inb y)
  unfold Ins
  iintro ⟨H0, H1, H2, H3, H4⟩ Hk
  iapply (wp_load_rect 𝒱₀ (c : Thread nD τ) none Set.univ (m := A3) (r := Rect.unit (s := S2x128x4x64) ![b.val, 0, h.val, 0] S1x128x1x64.size inb) (S := Finset.univ) (q := fullShare) (f := vv)
    (Finset.subset_univ _)) $$ H3
  iintro H3
  rw [e]
  iapply Hk
  iframe

/-- The read before the store, whose value the kernel does not use, and the store of the partial sums. -/
theorem step_mine {inb} {w : S256x512.Idx → Elt F .bf16} (hw : w = M c) {hl : A6.view.LoadsAt (Rect.unit (s := S256x512) ![0, 0] S256x512.size inb).toLoadRect}
    {hx : (A6.access (Rect.unit (s := S256x512) ![0, 0] S256x512.size inb)).Stores Finset.univ}
    {hm : (Finset.univ : Finset (Rect.unit (s := S256x512) ![0, 0] S256x512.size inb).shape.Idx) = Finset.univ ∨ ∀ a, (Rect.unit (s := S256x512) ![0, 0] S256x512.size inb).stride a = 1}
    {k : PUnit → Prog (TpuEff nD τ sig (Elt F) Λ₀ .tc) α} :
    MineAny (F := F) c ⊢ iprop((Mine M c -∗ wp frame (wpE (defs₀ (F := F)) 𝒱₀ (c : Thread nD τ) none) Set.univ (k ⟨⟩) Kt)
      -∗ wp frame (wpE (defs₀ (F := F)) 𝒱₀ (c : Thread nD τ) none) Set.univ (.op (.load A6 (Rect.unit (s := S256x512) ![0, 0] S256x512.size inb).toLoadRect hl)
        fun _ => .op (.store A6 (Rect.unit (s := S256x512) ![0, 0] S256x512.size inb) w Finset.univ hx hm) k) Kt) := by
  subst hw
  unfold MineAny Mine
  iintro ⟨%f, H⟩ Hk
  iapply (wp_load_rect 𝒱₀ (c : Thread nD τ) none Set.univ (m := A6) (r := Rect.unit (s := S256x512) ![0, 0] S256x512.size inb) (S := Finset.univ) (q := fullShare) (f := f) (Finset.subset_univ _)) $$ H
  iintro H
  iapply (wp_store 𝒱₀ (c : Thread nD τ) none Set.univ (m := A6) (r := Rect.unit (s := S256x512) ![0, 0] S256x512.size inb) (w := M c) (Mk := Finset.univ) (S := Finset.univ) (f := f) (Finset.subset_univ _)) $$ H
  rw [write6]
  iexact Hk

end Ops

/-! ## The parts -/

variable {x : Vec F S2x128x512 .f32} {wq : Vec F S512x256 .f32} {kk vv : Vec F S2x128x4x64 .f32} {wo : Vec F S256x512 .f32}

theorem part1 (κ : GSem nD τ sig → ℕ) (c : Dev nD) (Kt : (Σ' (_ : Dev nD) (_ : BitVec 32) (_ : Sems sig S_) (_ : BitVec 32), BitVec 32) → sProp 𝕄) :
    iprop(Sb M R κ c 0 ∗ (∀ a b d, Sb M R κ c 5 -∗ Kt ⟨c, a, SemArray.scalar (sig.barrier 0 rfl), b, d⟩)) ⊢ wpC c (onArgs (k0_part1 (F := F))) Kt := by
  rw [k0_part1_eq_skeleton]; unfold k0_part1_skel
  simp only [semSignalWord, semWaitWord, Prog.lift, Prog.bind_op, Prog.bind_ret, Prog.pure_eq_ret, Prog.bind_assoc, wp_deviceId]
  iintro ⟨H, Hk⟩
  iapply (step_signal M R κ 0 rfl (dev1 c) rfl rfl) $$ H; iintro H
  iapply (step_signal M R κ 1 rfl (dev2 c) rfl rfl) $$ H; iintro H
  iapply (step_signal M R κ 2 rfl (dev3 c) rfl rfl) $$ H; iintro H
  iapply (step_signal M R κ 3 rfl (dev4 c) rfl rfl) $$ H; iintro H
  iapply (step_signal M R κ 4 rfl (dev5 c) rfl rfl) $$ H; iintro H
  rw [wp_ret]; imodintro
  iapply Hk; iexact H

theorem part2 (κ : GSem nD τ sig → ℕ) (c : Dev nD) (a b d : BitVec 32) (Kt : (Σ' (_ : FVec F S256x256 .f32) (_ : IVec S128x128 32), IVec S128x128 1) → sProp 𝕄) :
    iprop((Sb M R κ c 5 ∗ Ins c x wq kk vv wo) ∗ ((Sb M R κ c 7 ∗ Ins c x wq kk vv wo) -∗ Kt ⟨k0_pay1 x wq, k0_pay2, k0_pay3⟩)) ⊢ wpC c (onArgs (k0_part2 (F := F)) c a (SemArray.scalar (sig.barrier 0 rfl)) b d) Kt := by
  rw [k0_part2_eq_skeleton]; unfold k0_part2_skel
  simp only [semSignalWord, semWaitWord, Prog.lift, Prog.bind_op, Prog.bind_ret, Prog.pure_eq_ret, Prog.bind_assoc, wp_deviceId]
  iintro ⟨⟨H, Hi⟩, Hk⟩
  iapply (step_signal M R κ 5 rfl (dev6 c) rfl rfl) $$ H; iintro H
  iapply (step_signal M R κ 6 rfl (dev7 c) rfl rfl) $$ H; iintro H
  iapply step_x $$ Hi; iintro Hi
  iapply step_wq $$ Hi; iintro Hi
  rw [wp_ret]; imodintro
  iapply Hk; isplitl [H] <;> iassumption

theorem part3 (c : Dev nD) (a : IVec S128x128 32) (b : IVec S128x128 1) (Kt : (Σ' (_ : IVec S128x128 32) (_ : IVec S128x128 1) (_ : IVec S128x128 32), BitVec 32) → sProp 𝕄) :
    Kt ⟨k0_pay4 a b, k0_pay6 a b, k0_pay7, 4#32⟩ ⊢ wpC (F := F) c (onArgs (k0_part3 (F := F)) a b) Kt := by
  rw [k0_part3_eq_skeleton]; unfold k0_part3_skel
  simp only [semSignalWord, semWaitWord, Prog.lift, Prog.bind_op, Prog.bind_ret, Prog.pure_eq_ret, Prog.bind_assoc, wp_deviceId]
  show _ ⊢ wp frame (wpE (defs₀ (F := F)) 𝒱₀ (c : Thread nD τ) none) Set.univ (Prog.ret _) Kt
  rw [wp_ret]; iintro Hk; imodintro; iexact Hk

theorem part4 (c : Dev nD) (q : FVec F S256x256 .f32) (a : IVec S128x128 32) (b : IVec S128x128 1) (d : IVec S128x128 32) (e : BitVec 32) (Kt : (Σ' (_ : FVec F S128x128 .f32) (_ _ : FVec F S128x64 .f32), FVec F S128x64 .f32) → sProp 𝕄) :
    iprop((Ins c x wq kk vv wo) ∗ ((Ins c x wq kk vv wo) -∗ Kt ⟨k0_pay8 a b d e, k0_pay9 q a b d e (hd kk 0 0) (hd vv 0 0), k0_pay10 q, k0_pay11 (hd kk 0 1)⟩)) ⊢ wpC c (onArgs (k0_part4 (F := F)) q a b d e) Kt := by
  rw [k0_part4_eq_skeleton]; unfold k0_part4_skel
  simp only [semSignalWord, semWaitWord, Prog.lift, Prog.bind_op, Prog.bind_ret, Prog.pure_eq_ret, Prog.bind_assoc, wp_deviceId]
  iintro ⟨Hi, Hk⟩
  iapply (step_k 0 0) $$ Hi; iintro Hi
  iapply (step_v 0 0) $$ Hi; iintro Hi
  iapply (step_k 0 1) $$ Hi; iintro Hi
  rw [wp_ret]; imodintro
  iapply Hk; iexact Hi

theorem part5 (c : Dev nD) (q : FVec F S256x256 .f32) (m : FVec F S128x128 .f32) (a b : FVec F S128x64 .f32) (Kt : (Σ' (_ _ _ : FVec F S128x64 .f32) (_ : FVec F S128x128 .f32), FVec F S128x1 .f32) → sProp 𝕄) :
    iprop((Ins c x wq kk vv wo) ∗ ((Ins c x wq kk vv wo) -∗ Kt ⟨k0_pay12 m a b (hd vv 0 1), k0_pay13 q m (hd kk 0 2) (hd vv 0 2), k0_pay14 (hd vv 0 3), k0_pay15 q m (hd kk 0 3), k0_pay16 q m (hd kk 0 3)⟩)) ⊢ wpC c (onArgs (k0_part5 (F := F)) q m a b) Kt := by
  rw [k0_part5_eq_skeleton]; unfold k0_part5_skel
  simp only [semSignalWord, semWaitWord, Prog.lift, Prog.bind_op, Prog.bind_ret, Prog.pure_eq_ret, Prog.bind_assoc, wp_deviceId]
  iintro ⟨Hi, Hk⟩
  iapply (step_v 0 1) $$ Hi; iintro Hi
  iapply (step_k 0 2) $$ Hi; iintro Hi
  iapply (step_v 0 2) $$ Hi; iintro Hi
  iapply (step_k 0 3) $$ Hi; iintro Hi
  iapply (step_v 0 3) $$ Hi; iintro Hi
  rw [wp_ret]; imodintro
  iapply Hk; iexact Hi

theorem part6 (c : Dev nD) (q : FVec F S256x256 .f32) (m : FVec F S128x128 .f32) (a b d e : FVec F S128x64 .f32) (f : FVec F S128x128 .f32) (g : FVec F S128x1 .f32) (Kt : (Σ' (_ : FVec F S128x256 .f32) (_ _ _ : FVec F S128x64 .f32), FVec F S128x64 .f32) → sProp 𝕄) :
    iprop((Ins c x wq kk vv wo) ∗ ((Ins c x wq kk vv wo) -∗ Kt ⟨k0_pay17 a b d e f g, k0_pay18 q m (hd kk 1 0) (hd vv 1 0), k0_pay19 q m (hd kk 1 1) (hd vv 1 1), k0_pay20 q, k0_pay21 (hd kk 1 2)⟩)) ⊢ wpC c (onArgs (k0_part6 (F := F)) q m a b d e f g) Kt := by
  rw [k0_part6_eq_skeleton]; unfold k0_part6_skel
  simp only [semSignalWord, semWaitWord, Prog.lift, Prog.bind_op, Prog.bind_ret, Prog.pure_eq_ret, Prog.bind_assoc, wp_deviceId]
  iintro ⟨Hi, Hk⟩
  iapply (step_k 1 0) $$ Hi; iintro Hi
  iapply (step_v 1 0) $$ Hi; iintro Hi
  iapply (step_k 1 1) $$ Hi; iintro Hi
  iapply (step_v 1 1) $$ Hi; iintro Hi
  iapply (step_k 1 2) $$ Hi; iintro Hi
  rw [wp_ret]; imodintro
  iapply Hk; iexact Hi

theorem part7 (κ : GSem nD τ sig → ℕ) (c : Dev nD) (q : FVec F S256x256 .f32) (m : FVec F S128x128 .f32) (a : FVec F S128x256 .f32) (b d e f : FVec F S128x64 .f32)
    (hM : k0_pay22 q m a b d e f (hd vv 1 2) (hd kk 1 3) (hd vv 1 3) wo = M c) (Kt : BitVec 32 → sProp 𝕄) :
    iprop((Sb M R κ c 7 ∗ cred (tallyAt (barCell c) 1 7) ∗ atPos (ER (F := F)) (barCell c) 0 ∅ 0 ∗ Ins c x wq kk vv wo ∗ MineAny (F := F) c)
      ∗ ((Bar M R κ c ∗ Ins c x wq kk vv wo ∗ Mine M c) -∗ Kt 1#32)) ⊢ wpC c (onArgs (k0_part7 (F := F)) (SemArray.scalar (sig.barrier 0 rfl)) q m a b d e f) Kt := by
  rw [k0_part7_eq_skeleton]; unfold k0_part7_skel
  simp only [semSignalWord, semWaitWord, Prog.lift, Prog.bind_op, Prog.bind_ret, Prog.pure_eq_ret, Prog.bind_assoc, wp_deviceId]
  iintro ⟨⟨H, Hc, Ha, Hi, Hm⟩, Hk⟩
  iapply (step_v 1 2) $$ Hi; iintro Hi
  iapply (step_k 1 3) $$ Hi; iintro Hi
  iapply (step_v 1 3) $$ Hi; iintro Hi
  iapply step_wo $$ Hi; iintro Hi
  iapply (step_mine M hM) $$ Hm; iintro Hm
  iapply (step_barwait M R κ rfl rfl) $$ [H Hc Ha]
  · iframe
  iintro H
  rw [wp_ret]; imodintro
  iapply Hk; unfold Bar; iframe

theorem part8 (c : Dev nD) (a b : BitVec 32) (Kt : (Σ' (_ _ _ _ _ _ _ _ : BitVec 32), BitVec 32) → sProp 𝕄) :
    iprop(∀ x0 x1 x2 x3 x4 x5 x6 x7 x8, Kt ⟨x0, x1, x2, x3, x4, x5, x6, x7, x8⟩) ⊢ wpC (F := F) c (onArgs (k0_part8 (F := F)) a b) Kt := by
  rw [k0_part8_eq_skeleton]; unfold k0_part8_skel
  simp only [semSignalWord, semWaitWord, Prog.lift, Prog.bind_op, Prog.bind_ret, Prog.pure_eq_ret, Prog.bind_assoc, wp_deviceId]
  show _ ⊢ wp frame (wpE (defs₀ (F := F)) 𝒱₀ (c : Thread nD τ) none) Set.univ (Prog.ret _) Kt
  rw [wp_ret]; iintro Hk; imodintro; iapply Hk

theorem part9 (c : Dev nD) (a b d : BitVec 32) (Kt : (Σ' (_ _ _ _ _ _ _ _ : BitVec 32), BitVec 32) → sProp 𝕄) :
    iprop(∀ x0 x1 x2 x3 x4 x5 x6 x7 x8, Kt ⟨x0, x1, x2, x3, x4, x5, x6, x7, x8⟩) ⊢ wpC (F := F) c (onArgs (k0_part9 (F := F)) a b d) Kt := by
  rw [k0_part9_eq_skeleton]; unfold k0_part9_skel
  simp only [semSignalWord, semWaitWord, Prog.lift, Prog.bind_op, Prog.bind_ret, Prog.pure_eq_ret, Prog.bind_assoc, wp_deviceId]
  show _ ⊢ wp frame (wpE (defs₀ (F := F)) 𝒱₀ (c : Thread nD τ) none) Set.univ (Prog.ret _) Kt
  rw [wp_ret]; iintro Hk; imodintro; iapply Hk

theorem part10 (c : Dev nD) (a b d : BitVec 32) (Kt : (Σ' (_ _ _ _ _ _ _ _ _ _ _ : BitVec 32), BitVec 32) → sProp 𝕄) :
    iprop(∀ x0 x1 x2 x3 x4 x5 x6 x7 x8 x9 x10 x11, Kt ⟨x0, x1, x2, x3, x4, x5, x6, x7, x8, x9, x10, x11⟩) ⊢ wpC (F := F) c (onArgs (k0_part10 (F := F)) a b d) Kt := by
  rw [k0_part10_eq_skeleton]; unfold k0_part10_skel
  simp only [semSignalWord, semWaitWord, Prog.lift, Prog.bind_op, Prog.bind_ret, Prog.pure_eq_ret, Prog.bind_assoc, wp_deviceId]
  show _ ⊢ wp frame (wpE (defs₀ (F := F)) 𝒱₀ (c : Thread nD τ) none) Set.univ (Prog.ret _) Kt
  rw [wp_ret]; iintro Hk; imodintro; iapply Hk

end Cert.KernelIdeal.Gen

end
-- ==== Proof.Pieces.lean ====
module

public import Idealize.ShloMosaic.Lib.Ring
public import proofs.«01_k».proof.Proof.BodyA

/-! # Buffers cut into blocks and put together again -/

@[expose] public section

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig ℕ (Elt F) ℕ UU ℕ

variable (M : Dev nD → C6 F) (R : Dev nD → C8 F)

/-! ## Blocks -/

/-- A buffer whose elements are sorted into blocks is held block by block. -/
theorem blocks_of {ℓ : Loc nD τ sig} {B : Type} [Fintype B] [DecidableEq B] (I : B → Finset (Idx ℓ)) (g : Idx ℓ → B) (h : ∀ b x, x ∈ I b ↔ g x = b)
    (f : Buf (Elt F) ℓ) : (ℓ ↦{fullShare} f : sProp 𝕄) = bigSep Finset.univ fun b => ℓ ↦[I b]{fullShare} f :=
  Ring.pointsTo_blocks I (fun b b' hb => Finset.disjoint_left.mpr fun x hx hx' => hb (((h b x).1 hx).symm.trans ((h b' x).1 hx')))
    (Finset.eq_univ_of_forall fun x => Finset.mem_biUnion.mpr ⟨g x, Finset.mem_univ _, (h _ x).2 rfl⟩) f

theorem mem_r6 (b : Dev nD × Fin 2) (x : S256x512.Idx) :
    x ∈ (r6 b.1 b.2).set ↔ ((⟨(x 0).val / 32, by have := idx2_lt0 x; show _ < 8; omega⟩ : Dev nD), (⟨(x 0).val % 32 / 16, by omega⟩ : Fin 2)) = b := by
  obtain ⟨j, h⟩ := b
  rw [Rect.mem_set_unit, Prod.mk.injEq, Fin.ext_iff, Fin.ext_iff]
  have h1 : (x 1).val < 512 := (x 1).isLt
  have hh := h.isLt
  show (∀ a, _) ↔ (x 0).val / 32 = j.val ∧ (x 0).val % 32 / 16 = h.val
  constructor
  · intro H
    have H0 : 32 * j.val + 16 * h.val ≤ (x 0).val ∧ (x 0).val < 32 * j.val + 16 * h.val + 16 := H 0
    omega
  · rintro ⟨e0, e1⟩ a
    match a with
    | ⟨0, _⟩ => exact (by omega : 32 * j.val + 16 * h.val ≤ (x 0).val ∧ (x 0).val < 32 * j.val + 16 * h.val + 16)
    | ⟨1, _⟩ => exact (by omega : 0 ≤ (x 1).val ∧ (x 1).val < 0 + 512)
theorem mem_r8 (h : Fin 2) (x : S32x512.Idx) : x ∈ (r8 h).set ↔ (⟨(x 0).val / 16, by have := idx2_lt0 x; omega⟩ : Fin 2) = h := by
  rw [Rect.mem_set_unit, Fin.ext_iff]
  have h1 : (x 1).val < 512 := (x 1).isLt
  show (∀ a, _) ↔ (x 0).val / 16 = h.val
  constructor
  · intro H
    have H0 : 16 * h.val ≤ (x 0).val ∧ (x 0).val < 16 * h.val + 16 := H 0
    omega
  · rintro e0 a
    match a with
    | ⟨0, _⟩ => exact (by omega : 16 * h.val ≤ (x 0).val ∧ (x 0).val < 16 * h.val + 16)
    | ⟨1, _⟩ => exact (by omega : 0 ≤ (x 1).val ∧ (x 1).val < 0 + 512)
theorem mem_r7 (b : Fin 7 × Fin 2) (x : S7x32x512.Idx) :
    x ∈ (r7 b.1 b.2).set ↔ ((x 0 : Fin 7), (⟨(x 1).val / 16, by have h1 : (x 1).val < 32 := (x 1).isLt; omega⟩ : Fin 2)) = b := by
  obtain ⟨i, h⟩ := b
  rw [Rect.mem_set_unit]
  refine Iff.trans ?_ (show ((x 0).val = i.val ∧ (x 1).val / 16 = h.val) ↔ _ from
    ⟨fun ⟨a, b⟩ => Prod.ext (Fin.ext a) (Fin.ext b), fun e => ⟨congrArg (fun p : Fin 7 × Fin 2 => p.1.val) e, congrArg (fun p : Fin 7 × Fin 2 => p.2.val) e⟩⟩)
  have h2 : (x 2).val < 512 := (x 2).isLt
  constructor
  · intro H
    have H0 : i.val ≤ (x 0).val ∧ (x 0).val < i.val + 1 := H 0
    have H1 : 16 * h.val ≤ (x 1).val ∧ (x 1).val < 16 * h.val + 16 := H 1
    omega
  · rintro ⟨e0, e1⟩ a
    match a with
    | ⟨0, _⟩ => exact (by omega : i.val ≤ (x 0).val ∧ (x 0).val < i.val + 1)
    | ⟨1, _⟩ => exact (by omega : 16 * h.val ≤ (x 1).val ∧ (x 1).val < 16 * h.val + 16)
    | ⟨2, _⟩ => exact (by omega : 0 ≤ (x 2).val ∧ (x 2).val < 0 + 512)

/-! ## Lists and families -/

theorem bySend (Φ : Ed → sProp 𝕄) : bigSep Finset.univ Φ = bigSepL sendOrd Φ := bigSep_univ_eq_bigSepL sendOrd (by decide) (by decide) Φ
theorem byRecv (Φ : Ed → sProp 𝕄) : bigSep Finset.univ Φ = bigSepL recvOrd Φ := bigSep_univ_eq_bigSepL recvOrd (by decide) (by decide) Φ
theorem byWait (Φ : Ed → sProp 𝕄) : bigSep Finset.univ Φ = bigSepL waitOrd Φ := bigSep_univ_eq_bigSepL waitOrd (by decide) (by decide) Φ

/-- The copies of the two phases. -/
def slotL : List (Fin 7 × Fin 2) := [3, 0, 2, 4, 6, 5, 1].map (·, 0) ++ [3, 0, 2, 4, 6, 5, 1].map (·, 1)
theorem phases (Φ : Ed → sProp 𝕄) :
    bigSep Finset.univ Φ = iprop((bigSep Finset.univ fun p : Fin 7 × Fin 2 => Φ (p.1, 0, p.2)) ∗ bigSep Finset.univ fun p : Fin 7 × Fin 2 => Φ (p.1, 1, p.2)) := by
  rw [byRecv, bigSep_univ_eq_bigSepL slotL (by decide) (by decide), bigSep_univ_eq_bigSepL slotL (by decide) (by decide),
    show recvOrd = slotL.map (fun p => (p.1, 0, p.2)) ++ slotL.map (fun p => (p.1, 1, p.2)) from rfl, bigSepL_append, bigSepL_map, bigSepL_map]

/-! ## The partial sums' buffer -/

def mineL (c : Dev nD) : List (Dev nD × Fin 2) := (sendOrd.take 14).map (fun e => (pl c e.1, e.2.2)) ++ [(c, 0), (c, 1)]

theorem Mine_split (c : Dev nD) : Mine M c = iprop(bigSepL (sendOrd.take 14) (srcP M R c) ∗ Own M c 0 ∗ Own M c 1) := by
  unfold Mine
  rw [blocks_of (ℓ := A6.view.loc (c : Thread nD τ)) (fun b : Dev nD × Fin 2 => (r6 b.1 b.2).set) _ mem_r6 (M c),
    bigSep_univ_eq_bigSepL (mineL c) (by revert c; decide) (by revert c; decide), mineL, bigSepL_append, bigSepL_map]
  have e : ∀ e ∈ sendOrd.take 14, (A6.view.loc (c : Thread nD τ) ↦[(r6 (pl c e.1) e.2.2).set]{fullShare} M c : sProp 𝕄) = srcP M R c e := by
    rintro ⟨i, k, h⟩ he
    have hk : k = 0 := (by decide : ∀ e ∈ sendOrd.take 14, e.2.1 = 0) _ he
    subst hk
    show _ = (src6 c i h).view.loc (c : Thread nD τ) ↦[(src6 c i h).view.set]{fullShare} M c
    rw [src6_set]
  have e2 : bigSepL (sendOrd.take 14) (fun e => (A6.view.loc (c : Thread nD τ) ↦[(r6 (pl c e.1) e.2.2).set]{fullShare} M c : sProp 𝕄))
      = bigSepL (sendOrd.take 14) (srcP M R c) :=
    BI.Entails.antisymm (bigSepL_mono fun i hi => Entails.of_eq (e i hi)) (bigSepL_mono fun i hi => Entails.of_eq (e i hi).symm)
  refine congrArg₂ BIBase.sep e2 ?_
  refine congrArg₂ BIBase.sep rfl ?_
  rfl

theorem Red_split (c : Dev nD) (f : C8 F) : (A8.view.loc (c : Thread nD τ) ↦{fullShare} f : sProp 𝕄)
    = iprop((A8.view.loc (c : Thread nD τ) ↦[(r8 0).set]{fullShare} f) ∗ (A8.view.loc (c : Thread nD τ) ↦[(r8 1).set]{fullShare} f)) := by
  rw [blocks_of (ℓ := A8.view.loc (c : Thread nD τ)) (fun h : Fin 2 => (r8 h).set) _ mem_r8 f, bigSep_univ_eq_bigSepL [0, 1] (by decide) (by decide)]
  refine congrArg₂ BIBase.sep rfl ?_
  rfl

theorem Slots7 (c : Dev nD) (f : C7 F) : (A7.view.loc (c : Thread nD τ) ↦{fullShare} f : sProp 𝕄)
    = bigSep Finset.univ fun p : Fin 7 × Fin 2 => (dst7 p.1 p.2).view.loc (c : Thread nD τ) ↦[(dst7 p.1 p.2).view.set]{fullShare} f := by
  rw [blocks_of (ℓ := A7.view.loc (c : Thread nD τ)) (fun b : Fin 7 × Fin 2 => (r7 b.1 b.2).set) _ mem_r7 f]
  exact congrArg (bigSep Finset.univ) (funext fun p => by rw [dst7_set])
theorem Slots9 (c : Dev nD) (f : C7 F) : (A9.view.loc (c : Thread nD τ) ↦{fullShare} f : sProp 𝕄)
    = bigSep Finset.univ fun p : Fin 7 × Fin 2 => (dst9 p.1 p.2).view.loc (c : Thread nD τ) ↦[(dst9 p.1 p.2).view.set]{fullShare} f := by
  rw [blocks_of (ℓ := A9.view.loc (c : Thread nD τ)) (fun b : Fin 7 × Fin 2 => (r7 b.1 b.2).set) _ mem_r7 f]
  exact congrArg (bigSep Finset.univ) (funext fun p => by rw [dst9_set])

theorem slots (c : Dev nD) (f g : C7 F) : iprop((A7.view.loc (c : Thread nD τ) ↦{fullShare} f) ∗ (A9.view.loc (c : Thread nD τ) ↦{fullShare} g))
    ⊢ (bigSep Finset.univ (dstAny (F := F) c) : sProp 𝕄) := by
  rw [phases, Slots7, Slots9]
  refine Laws.sep_mono (bigSep_mono fun p _ => ?_) (bigSep_mono fun p _ => ?_)
  · show (_ : sProp 𝕄) ⊢ _; unfold dstAny; iintro H; iexists f; iexact H
  · show (_ : sProp 𝕄) ⊢ _; unfold dstAny; iintro H; iexists g; iexact H

/-! ## The start -/

/-- What a device starts the body with, beside its buffers of partial sums, finished rows, operands and result. -/
def Boot (κ : GSem nD τ sig → ℕ) (c : Dev nD) : sProp 𝕄 :=
  iprop(Cx M R κ ∗ (bigSep Finset.univ fun j : Fin 7 => dutyTok (ER (F := F)) (barCell (pl c j)) 0 j.rev) ∗ (bigSep Finset.univ fun j : Fin 7 => reached (ER (F := F)) (barCell (pl c j)) 0)
    ∗ (bigSep Finset.univ fun e : Ed => dutyTok (ER (F := F)) (sendCell c e) 0 0) ∗ (bigSep Finset.univ fun e : Ed => dutyTok (ER (F := F)) (recvCell (pl c e.1) e) 0 0)
    ∗ (bigSep Finset.univ fun e : Ed => iprop(atPos (ER (F := F)) (sendCell c e) 0 ∅ 0 ∗ reached (ER (F := F)) (sendCell c e) 0))
    ∗ (bigSep Finset.univ fun e : Ed => iprop(atPos (ER (F := F)) (recvCell c e) 0 ∅ 0 ∗ reached (ER (F := F)) (recvCell c e) 0))
    ∗ (bigSep Finset.univ fun e : Ed => cred (tallyAt (recvCell c e) (ixOf e) NN))
    ∗ cred (tallyAt (barCell c) 1 7) ∗ atPos (ER (F := F)) (barCell c) 0 ∅ 0 ∗ (∃ W, owes (c : Thread nD τ) (TalkSites.tallyL (payBL c 0)) W)
    ∗ (∃ f : C7 F, A7.view.loc (c : Thread nD τ) ↦{fullShare} f) ∗ (∃ f : C7 F, A9.view.loc (c : Thread nD τ) ↦{fullShare} f))

/-- The tokens of copy `e`. -/
def Pre (c : Dev nD) (e : Ed) : sProp 𝕄 :=
  iprop((dutyTok (ER (F := F)) (sendCell c e) 0 0 ∗ reached (ER (F := F)) (sendCell c e) 0 ∗ atPos (ER (F := F)) (sendCell c e) 0 ∅ 0)
    ∗ dutyTok (ER (F := F)) (recvCell (pl c e.1) e) 0 0)

theorem give (c : Dev nD) : iprop(bigSep Finset.univ (dstAny (F := F) c) ∗ bigSep Finset.univ fun e : Ed => reached (ER (F := F)) (recvCell c e) 0)
    ⊢ (bigSep Finset.univ fun j : Fin 7 => barPay (F := F) (pl c j) j.rev : sProp 𝕄) := by
  rw [← bigSep_sep', bigSep_univ_prod, bigSep_univ_eq_bigSepL ((List.finRange 7).map Fin.rev) (by decide) (by decide), bigSepL_map,
    bigSep_univ_eq_bigSepL (List.finRange 7) (by decide) (by decide)]
  refine bigSepL_mono fun j _ => ?_
  unfold barPay
  rw [pl_rev]

theorem boot (κ : GSem nD τ sig → ℕ) (c : Dev nD) : Boot M R κ c
    ⊢ iprop(Sb M R κ c 0 ∗ cred (tallyAt (barCell c) 1 7) ∗ atPos (ER (F := F)) (barCell c) 0 ∅ 0 ∗ bigSepL sendOrd (Pre (F := F) c) ∗ bigSepL recvOrd (Pend (F := F) c)) := by
  unfold Boot Sb
  rw [← bySend, ← byRecv, show (List.finRange 7).drop 0 = List.finRange 7 from rfl, ← bigSep_univ_eq_bigSepL (List.finRange 7) (by decide) (by decide)]
  unfold Pre Pend
  simp only [bigSep_sep']
  iintro ⟨HC, H1, H2, H3, H4, ⟨H5, H6⟩, ⟨H7, #H8⟩, H9, Hc, Ha, HO, ⟨%f, Hf⟩, ⟨%g, Hg⟩⟩
  ihave Hd := (slots c f g) $$ [Hf Hg]
  · isplitl [Hf] <;> iassumption
  ihave Hb := (give c) $$ [Hd]
  · isplitl [Hd]; · iexact Hd
    iexact H8
  iframe

theorem start (κ : GSem nD τ sig → ℕ) (c : Dev nD) : iprop(Bar M R κ c ∗ Mine M c ∗ bigSepL sendOrd (Pre (F := F) c) ∗ bigSepL recvOrd (Pend (F := F) c))
    ⊢ iprop(St M R κ c 0 14 0 ∗ semVal (barCell c) 0 ∗ Own M c 0 ∗ Own M c 1) := by
  have e : (bigSep Finset.univ fun i => barPay (F := F) c i : sProp 𝕄)
      = bigSep Finset.univ fun e : Ed => iprop(dstAny (F := F) (pl c e.1) e ∗ reached (ER (F := F)) (recvCell (pl c e.1) e) 0) := by
    rw [bigSep_univ_prod]; rfl
  have e2 : iprop(bigSepL sendOrd (Pre (F := F) c)
      ∗ bigSep Finset.univ fun e : Ed => iprop(dstAny (F := F) (pl c e.1) e ∗ reached (ER (F := F)) (recvCell (pl c e.1) e) 0)) ⊢ bigSepL sendOrd (Rdy (F := F) c) := by
    rw [← bySend, ← bySend, ← bigSep_sep']
    refine bigSep_mono fun e _ => ?_
    show (_ : sProp 𝕄) ⊢ _
    unfold Rdy Pre
    iintro ⟨⟨⟨H1, H2, H3⟩, H4⟩, H5, H6⟩
    iframe
  unfold St Bar
  rw [show sendOrd.drop 0 = sendOrd from rfl, show (sendOrd.take 14).drop 0 = sendOrd.take 14 from rfl, show recvOrd.drop 0 = recvOrd from rfl,
    show bigSepL (sendOrd.take 0) (Fly (F := F) c) = (iprop(emp) : sProp 𝕄) from rfl,
    show bigSepL (recvOrd.take 0) (RDone M R c) = (iprop(emp) : sProp 𝕄) from rfl, e, Mine_split M R]
  iintro ⟨⟨HC, HO, Hs, Hb⟩, ⟨Hm, H0, H1⟩, Hp, Hq⟩
  ihave Hr := e2 $$ [Hp Hb]
  · isplitl [Hp] <;> iassumption
  iframe

/-! ## The end -/

theorem finish (κ : GSem nD τ sig → ℕ) (c : Dev nD) : iprop(Sw M (redOf M) κ c 28 ∗ Own M c 0 ∗ Own M c 1)
    ⊢ iprop((∃ W, owes (c : Thread nD τ) (0 : CellTallies nD τ sig ℕ) W) ∗ (bigSep Finset.univ fun e : Ed => semVal (sendCell c e) 0) ∗ (bigSep Finset.univ fun e : Ed => semVal (recvCell c e) 0)
      ∗ (A6.view.loc (c : Thread nD τ) ↦{fullShare} M c) ∗ (A7.view.loc (c : Thread nD τ) ↦{fullShare} land7 M c)
      ∗ (A8.view.loc (c : Thread nD τ) ↦{fullShare} redOf M c) ∗ (A9.view.loc (c : Thread nD τ) ↦{fullShare} land9 (redOf M) c)) := by
  unfold Sw
  rw [show waitOrd.take 28 = waitOrd from rfl, ← byWait, ← byRecv]
  unfold SDone RDone
  rw [bigSep_sep', bigSep_sep', bySend (srcP M (redOf M) c), phases (dstL M (redOf M) c), Slots7, Slots9, Red_split,
    show sendOrd = sendOrd.take 14 ++ (([1, 5, 0, 2, 4, 6, 3] : List (Fin 7)).map (·, 1, 0) ++ ([1, 5, 0, 2, 4, 6, 3] : List (Fin 7)).map (·, 1, 1)) from rfl,
    bigSepL_append, bigSepL_append, ← Red_shares, ← Red_shares]
  have e := Mine_split M (redOf M) c
  unfold Mine at e
  rw [e]
  unfold Red
  iintro ⟨⟨-, -, ⟨H1, H2, H3, H4⟩, HO, H5, H6, H7⟩, H8, H9⟩
  isplitl [HO]; · iexact HO
  isplitl [H1]; · iexact H1
  isplitl [H5]; · iexact H5
  isplitl [H2 H8 H9]
  · isplitl [H2]; · iexact H2
    isplitl [H8] <;> iassumption
  isplitl [H6]; · iexact H6
  isplitl [H3 H4]
  · isplitl [H3] <;> iassumption
  iexact H7

end Cert.KernelIdeal.Gen

end
-- ==== Proof.BodyC.lean ====
module

public import proofs.«01_k».proof.Proof.BodyB

/-! # The finished rows as they come, and the waits for the own copies -/

@[expose] public section

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig ℕ (Elt F) ℕ UU ℕ

variable (M : Dev nD → C6 F) (R : Dev nD → C8 F)

/-- The read before the store, whose value the kernel does not use, and the store of a block that came. -/
theorem step_emit {α : Type} {Kt : α → sProp 𝕄} {c : Dev nD} {o : ℕ} (i : Fin 7) (h : Fin 2) (ho : (outL c)[o]? = some (mi c i, h)) {off : Fin 3 → ℕ} {inb : ∀ a, off a + S1x16x512.size a ≤ S2x128x512.size a}
    (he : off = k0_off5 c (BitVec.ofNat 32 (1 + i.val)) (BitVec.ofNat 32 (16 * h.val))) {w : S1x16x512.Idx → Elt F .f32} (hw : w = GB M R c (mi c i) h)
    {hl : A5.view.LoadsAt (Rect.unit (s := S2x128x512) off S1x16x512.size inb).toLoadRect} {hx : (A5.access (Rect.unit (s := S2x128x512) off S1x16x512.size inb)).Stores Finset.univ}
    {hm : (Finset.univ : Finset (Rect.unit (s := S2x128x512) off S1x16x512.size inb).shape.Idx) = Finset.univ ∨ ∀ a, (Rect.unit (s := S2x128x512) off S1x16x512.size inb).stride a = 1}
    {k : PUnit → Prog (TpuEff nD τ sig (Elt F) Λ₀ .tc) α} :
    Out M R c o ⊢ iprop((Out M R c (o + 1) -∗ wp frame (wpE (defs₀ (F := F)) 𝒱₀ (c : Thread nD τ) none) Set.univ (k ⟨⟩) Kt)
      -∗ wp frame (wpE (defs₀ (F := F)) 𝒱₀ (c : Thread nD τ) none) Set.univ (.op (.load A5 (Rect.unit (s := S2x128x512) off S1x16x512.size inb).toLoadRect hl) fun _ => .op (.store A5 (Rect.unit (s := S2x128x512) off S1x16x512.size inb) w Finset.univ hx hm) k) Kt) := by
  iintro H Hk
  iapply (step_out0 M R) $$ H; iintro %v H
  iapply (step_out M R (mi c i) h ho (he.trans (off5_eq c i h)) hw) $$ H
  iexact Hk

theorem part28 (κ : GSem nD τ sig → ℕ) (c : Dev nD) (a : BitVec 32) (Kt : PUnit → sProp 𝕄) :
    iprop((St M R κ c 28 28 14 ∗ Out M R c 2) ∗ ((St M R κ c 28 28 15 ∗ Out M R c 3) -∗ Kt ⟨⟩)) ⊢ wpC c (onArgs (k0_part28 (F := F)) c a) Kt := by
  rw [k0_part28_eq_skeleton]; unfold k0_part28_skel
  simp only [semSignalWord, semWaitWord, Prog.lift, Prog.bind_op, Prog.bind_ret, Prog.pure_eq_ret, Prog.bind_assoc, wp_deviceId]
  iintro ⟨⟨H, Hu⟩, Hk⟩
  iapply (step_recv M R κ (3, 1, 0) rfl (by decide) rfl rfl) $$ H; iintro H
  iapply (step_load9 M R κ 3 0 rfl) $$ H; iintro H
  iapply (step_emit M R 3 0 rfl rfl (GB_mi M R c 3 0)) $$ Hu; iintro Hu
  rw [wp_ret]; imodintro
  iapply Hk; isplitl [H] <;> iassumption

theorem part29 (κ : GSem nD τ sig → ℕ) (c : Dev nD) (a b : BitVec 32) (Kt : (Σ' (_ : FVec F S1x16x512 .f32) (_ : BitVec 32), BitVec 32) → sProp 𝕄) :
    iprop((St M R κ c 28 28 15 ∗ Out M R c 3) ∗ (∀ x y, (St M R κ c 28 28 16 ∗ Out M R c 3) -∗ Kt ⟨k0_pay37 (lnd9 R (mi c 0) 0), x, y⟩)) ⊢ wpC c (onArgs (k0_part29 (F := F)) a b) Kt := by
  rw [k0_part29_eq_skeleton]; unfold k0_part29_skel
  simp only [semSignalWord, semWaitWord, Prog.lift, Prog.bind_op, Prog.bind_ret, Prog.pure_eq_ret, Prog.bind_assoc, wp_deviceId]
  iintro ⟨⟨H, Hu⟩, Hk⟩
  iapply (step_recv M R κ (0, 1, 0) rfl (by decide) rfl rfl) $$ H; iintro H
  iapply (step_load9 M R κ 0 0 rfl) $$ H; iintro H
  rw [wp_ret]; imodintro
  iapply Hk; isplitl [H] <;> iassumption

theorem part30 (κ : GSem nD τ sig → ℕ) (c : Dev nD) (a b : BitVec 32) (v : FVec F S1x16x512 .f32) (d e : BitVec 32) (hv : v = GB M R c (mi c 0) 0) (Kt : (Σ' (_ : BitVec 32) (_ : FVec F S1x16x512 .f32) (_ : BitVec 32) (_ : BitVec 1), BitVec 32) → sProp 𝕄) :
    iprop((St M R κ c 28 28 16 ∗ Out M R c 3) ∗ (∀ x y z t, (St M R κ c 28 28 17 ∗ Out M R c 4) -∗ Kt ⟨x, k0_pay38 (lnd9 R (mi c 2) 0), y, z, t⟩)) ⊢ wpC c (onArgs (k0_part30 (F := F)) c a b v d e) Kt := by
  rw [k0_part30_eq_skeleton]; unfold k0_part30_skel
  simp only [semSignalWord, semWaitWord, Prog.lift, Prog.bind_op, Prog.bind_ret, Prog.pure_eq_ret, Prog.bind_assoc, wp_deviceId]
  iintro ⟨⟨H, Hu⟩, Hk⟩
  iapply (step_emit M R 0 0 rfl rfl hv) $$ Hu; iintro Hu
  iapply (step_recv M R κ (2, 1, 0) rfl (by decide) rfl rfl) $$ H; iintro H
  iapply (step_load9 M R κ 2 0 rfl) $$ H; iintro H
  rw [wp_ret]; imodintro
  iapply Hk; isplitl [H] <;> iassumption

theorem part31 (κ : GSem nD τ sig → ℕ) (c : Dev nD) (a b d : BitVec 32) (v : FVec F S1x16x512 .f32) (e : BitVec 32) (f : BitVec 1) (g : BitVec 32) (hv : v = GB M R c (mi c 2) 0) (Kt : (Σ' (_ : BitVec 32) (_ : FVec F S1x16x512 .f32) (_ _ _ : BitVec 32), BitVec 32) → sProp 𝕄) :
    iprop((St M R κ c 28 28 17 ∗ Out M R c 4) ∗ (∀ x y z t u, (St M R κ c 28 28 18 ∗ Out M R c 5) -∗ Kt ⟨x, k0_pay39 (lnd9 R (mi c 4) 0), y, z, t, u⟩)) ⊢ wpC c (onArgs (k0_part31 (F := F)) c a b d v e f g) Kt := by
  rw [k0_part31_eq_skeleton]; unfold k0_part31_skel
  simp only [semSignalWord, semWaitWord, Prog.lift, Prog.bind_op, Prog.bind_ret, Prog.pure_eq_ret, Prog.bind_assoc, wp_deviceId]
  iintro ⟨⟨H, Hu⟩, Hk⟩
  iapply (step_emit M R 2 0 rfl rfl hv) $$ Hu; iintro Hu
  iapply (step_recv M R κ (4, 1, 0) rfl (by decide) rfl rfl) $$ H; iintro H
  iapply (step_load9 M R κ 4 0 rfl) $$ H; iintro H
  rw [wp_ret]; imodintro
  iapply Hk; isplitl [H] <;> iassumption

theorem part32 (κ : GSem nD τ sig → ℕ) (c : Dev nD) (a b d : BitVec 32) (v : FVec F S1x16x512 .f32) (e f g i : BitVec 32) (hv : v = GB M R c (mi c 4) 0) (Kt : (Σ' (_ : BitVec 32) (_ : FVec F S1x16x512 .f32) (_ _ : BitVec 32), BitVec 32) → sProp 𝕄) :
    iprop((St M R κ c 28 28 18 ∗ Out M R c 5) ∗ (∀ x y z t, (St M R κ c 28 28 19 ∗ Out M R c 6) -∗ Kt ⟨x, k0_pay40 (lnd9 R (mi c 6) 0), y, z, t⟩)) ⊢ wpC c (onArgs (k0_part32 (F := F)) c a b d v e f g i) Kt := by
  rw [k0_part32_eq_skeleton]; unfold k0_part32_skel
  simp only [semSignalWord, semWaitWord, Prog.lift, Prog.bind_op, Prog.bind_ret, Prog.pure_eq_ret, Prog.bind_assoc, wp_deviceId]
  iintro ⟨⟨H, Hu⟩, Hk⟩
  iapply (step_emit M R 4 0 rfl rfl hv) $$ Hu; iintro Hu
  iapply (step_recv M R κ (6, 1, 0) rfl (by decide) rfl rfl) $$ H; iintro H
  iapply (step_load9 M R κ 6 0 rfl) $$ H; iintro H
  rw [wp_ret]; imodintro
  iapply Hk; isplitl [H] <;> iassumption

theorem part33 (κ : GSem nD τ sig → ℕ) (c : Dev nD) (a b d : BitVec 32) (v : FVec F S1x16x512 .f32) (e f g : BitVec 32) (hv : v = GB M R c (mi c 6) 0) (Kt : (Σ' (_ : BitVec 32) (_ : FVec F S1x16x512 .f32) (_ : BitVec 32), BitVec 32) → sProp 𝕄) :
    iprop((St M R κ c 28 28 19 ∗ Out M R c 6) ∗ (∀ x y z, (St M R κ c 28 28 20 ∗ Out M R c 7) -∗ Kt ⟨x, k0_pay41 (lnd9 R (mi c 5) 0), y, z⟩)) ⊢ wpC c (onArgs (k0_part33 (F := F)) c a b d v e f g) Kt := by
  rw [k0_part33_eq_skeleton]; unfold k0_part33_skel
  simp only [semSignalWord, semWaitWord, Prog.lift, Prog.bind_op, Prog.bind_ret, Prog.pure_eq_ret, Prog.bind_assoc, wp_deviceId]
  iintro ⟨⟨H, Hu⟩, Hk⟩
  iapply (step_emit M R 6 0 rfl rfl hv) $$ Hu; iintro Hu
  iapply (step_recv M R κ (5, 1, 0) rfl (by decide) rfl rfl) $$ H; iintro H
  iapply (step_load9 M R κ 5 0 rfl) $$ H; iintro H
  rw [wp_ret]; imodintro
  iapply Hk; isplitl [H] <;> iassumption

theorem part34 (κ : GSem nD τ sig → ℕ) (c : Dev nD) (a b d : BitVec 32) (v : FVec F S1x16x512 .f32) (e f : BitVec 32) (hv : v = GB M R c (mi c 5) 0) (Kt : BitVec 32 → sProp 𝕄) :
    iprop((St M R κ c 28 28 20 ∗ Out M R c 7) ∗ (∀ x, (St M R κ c 28 28 21 ∗ Out M R c 8) -∗ Kt x)) ⊢ wpC c (onArgs (k0_part34 (F := F)) c a b d v e f) Kt := by
  rw [k0_part34_eq_skeleton]; unfold k0_part34_skel
  simp only [semSignalWord, semWaitWord, Prog.lift, Prog.bind_op, Prog.bind_ret, Prog.pure_eq_ret, Prog.bind_assoc, wp_deviceId]
  iintro ⟨⟨H, Hu⟩, Hk⟩
  iapply (step_emit M R 5 0 rfl rfl hv) $$ Hu; iintro Hu
  iapply (step_recv M R κ (1, 1, 0) rfl (by decide) rfl rfl) $$ H; iintro H
  rw [wp_ret]; imodintro
  iapply Hk; isplitl [H] <;> iassumption

theorem part35 (κ : GSem nD τ sig → ℕ) (c : Dev nD) (a b : BitVec 32) (Kt : BitVec 32 → sProp 𝕄) :
    iprop((St M R κ c 28 28 21 ∗ Out M R c 8) ∗ (∀ x, (St M R κ c 28 28 22 ∗ Out M R c 9) -∗ Kt x)) ⊢ wpC c (onArgs (k0_part35 (F := F)) c a b) Kt := by
  rw [k0_part35_eq_skeleton]; unfold k0_part35_skel
  simp only [semSignalWord, semWaitWord, Prog.lift, Prog.bind_op, Prog.bind_ret, Prog.pure_eq_ret, Prog.bind_assoc, wp_deviceId]
  iintro ⟨⟨H, Hu⟩, Hk⟩
  iapply (step_load9 M R κ 1 0 rfl) $$ H; iintro H
  iapply (step_emit M R 1 0 rfl rfl (GB_mi M R c 1 0)) $$ Hu; iintro Hu
  iapply (step_recv M R κ (3, 1, 1) rfl (by decide) rfl rfl) $$ H; iintro H
  rw [wp_ret]; imodintro
  iapply Hk; isplitl [H] <;> iassumption

theorem part36 (κ : GSem nD τ sig → ℕ) (c : Dev nD) (a b d : BitVec 32) (Kt : PUnit → sProp 𝕄) :
    iprop((St M R κ c 28 28 22 ∗ Out M R c 9) ∗ ((St M R κ c 28 28 22 ∗ Out M R c 10) -∗ Kt ⟨⟩)) ⊢ wpC c (onArgs (k0_part36 (F := F)) c a b d) Kt := by
  rw [k0_part36_eq_skeleton]; unfold k0_part36_skel
  simp only [semSignalWord, semWaitWord, Prog.lift, Prog.bind_op, Prog.bind_ret, Prog.pure_eq_ret, Prog.bind_assoc, wp_deviceId]
  iintro ⟨⟨H, Hu⟩, Hk⟩
  iapply (step_load9 M R κ 3 1 rfl) $$ H; iintro H
  iapply (step_emit M R 3 1 rfl rfl (GB_mi M R c 3 1)) $$ Hu; iintro Hu
  rw [wp_ret]; imodintro
  iapply Hk; isplitl [H] <;> iassumption

theorem part37 (κ : GSem nD τ sig → ℕ) (c : Dev nD) (a : BitVec 32) (Kt : BitVec 32 → sProp 𝕄) :
    iprop((St M R κ c 28 28 22 ∗ Out M R c 10) ∗ (∀ x, (St M R κ c 28 28 23 ∗ Out M R c 11) -∗ Kt x)) ⊢ wpC c (onArgs (k0_part37 (F := F)) c a) Kt := by
  rw [k0_part37_eq_skeleton]; unfold k0_part37_skel
  simp only [semSignalWord, semWaitWord, Prog.lift, Prog.bind_op, Prog.bind_ret, Prog.pure_eq_ret, Prog.bind_assoc, wp_deviceId]
  iintro ⟨⟨H, Hu⟩, Hk⟩
  iapply (step_recv M R κ (0, 1, 1) rfl (by decide) rfl rfl) $$ H; iintro H
  iapply (step_load9 M R κ 0 1 rfl) $$ H; iintro H
  iapply (step_emit M R 0 1 rfl rfl (GB_mi M R c 0 1)) $$ Hu; iintro Hu
  rw [wp_ret]; imodintro
  iapply Hk; isplitl [H] <;> iassumption

theorem part38 (κ : GSem nD τ sig → ℕ) (c : Dev nD) (a b d : BitVec 32) (Kt : FVec F S1x16x512 .f32 → sProp 𝕄) :
    iprop((St M R κ c 28 28 23 ∗ Out M R c 11) ∗ ((St M R κ c 28 28 24 ∗ Out M R c 11) -∗ Kt (k0_pay45 (lnd9 R (mi c 2) 1)))) ⊢ wpC c (onArgs (k0_part38 (F := F)) c a b d) Kt := by
  rw [k0_part38_eq_skeleton]; unfold k0_part38_skel
  simp only [semSignalWord, semWaitWord, Prog.lift, Prog.bind_op, Prog.bind_ret, Prog.pure_eq_ret, Prog.bind_assoc, wp_deviceId]
  iintro ⟨⟨H, Hu⟩, Hk⟩
  iapply (step_recv M R κ (2, 1, 1) rfl (by decide) rfl rfl) $$ H; iintro H
  iapply (step_load9 M R κ 2 1 rfl) $$ H; iintro H
  iapply (step_out0 M R) $$ Hu; iintro %v0 Hu
  rw [wp_ret]; imodintro
  iapply Hk; isplitl [H] <;> iassumption

theorem part39 (κ : GSem nD τ sig → ℕ) (c : Dev nD) (a b : BitVec 32) (v : FVec F S1x16x512 .f32) (hv : v = GB M R c (mi c 2) 1) (Kt : (Σ' (_ : FVec F S1x16x512 .f32) (_ _ : BitVec 32), BitVec 32) → sProp 𝕄) :
    iprop((St M R κ c 28 28 24 ∗ Out M R c 11) ∗ (∀ x y z, (St M R κ c 28 28 25 ∗ Out M R c 12) -∗ Kt ⟨k0_pay46 (lnd9 R (mi c 4) 1), x, y, z⟩)) ⊢ wpC c (onArgs (k0_part39 (F := F)) c a b v) Kt := by
  rw [k0_part39_eq_skeleton]; unfold k0_part39_skel
  simp only [semSignalWord, semWaitWord, Prog.lift, Prog.bind_op, Prog.bind_ret, Prog.pure_eq_ret, Prog.bind_assoc, wp_deviceId]
  iintro ⟨⟨H, Hu⟩, Hk⟩
  iapply (step_out M R (mi c 2) 1 rfl (off5_eq c 2 1) hv) $$ Hu; iintro Hu
  iapply (step_recv M R κ (4, 1, 1) rfl (by decide) rfl rfl) $$ H; iintro H
  iapply (step_load9 M R κ 4 1 rfl) $$ H; iintro H
  rw [wp_ret]; imodintro
  iapply Hk; isplitl [H] <;> iassumption

theorem part40 (κ : GSem nD τ sig → ℕ) (c : Dev nD) (a b : BitVec 32) (v : FVec F S1x16x512 .f32) (d e f : BitVec 32) (hv : v = GB M R c (mi c 4) 1) (Kt : (Σ' (_ : BitVec 32) (_ : FVec F S1x16x512 .f32) (_ : BitVec 32) (_ : BitVec 1), BitVec 1) → sProp 𝕄) :
    iprop((St M R κ c 28 28 25 ∗ Out M R c 12) ∗ (∀ x y z t, (St M R κ c 28 28 26 ∗ Out M R c 13) -∗ Kt ⟨x, k0_pay47 (lnd9 R (mi c 6) 1), y, z, t⟩)) ⊢ wpC c (onArgs (k0_part40 (F := F)) c a b v d e f) Kt := by
  rw [k0_part40_eq_skeleton]; unfold k0_part40_skel
  simp only [semSignalWord, semWaitWord, Prog.lift, Prog.bind_op, Prog.bind_ret, Prog.pure_eq_ret, Prog.bind_assoc, wp_deviceId]
  iintro ⟨⟨H, Hu⟩, Hk⟩
  iapply (step_emit M R 4 1 rfl rfl hv) $$ Hu; iintro Hu
  iapply (step_recv M R κ (6, 1, 1) rfl (by decide) rfl rfl) $$ H; iintro H
  iapply (step_load9 M R κ 6 1 rfl) $$ H; iintro H
  rw [wp_ret]; imodintro
  iapply Hk; isplitl [H] <;> iassumption

theorem part41 (κ : GSem nD τ sig → ℕ) (c : Dev nD) (a b d : BitVec 32) (v : FVec F S1x16x512 .f32) (e : BitVec 32) (f g : BitVec 1) (hv : v = GB M R c (mi c 6) 1) (Kt : (Σ' (_ : BitVec 32) (_ : FVec F S1x16x512 .f32) (_ _ _ _ : BitVec 32), BitVec 32) → sProp 𝕄) :
    iprop((St M R κ c 28 28 26 ∗ Out M R c 13) ∗ (∀ x y z t u s, (St M R κ c 28 28 27 ∗ Out M R c 14) -∗ Kt ⟨x, k0_pay48 (lnd9 R (mi c 5) 1), y, z, t, u, s⟩)) ⊢ wpC c (onArgs (k0_part41 (F := F)) c a b d v e f g) Kt := by
  rw [k0_part41_eq_skeleton]; unfold k0_part41_skel
  simp only [semSignalWord, semWaitWord, Prog.lift, Prog.bind_op, Prog.bind_ret, Prog.pure_eq_ret, Prog.bind_assoc, wp_deviceId]
  iintro ⟨⟨H, Hu⟩, Hk⟩
  iapply (step_emit M R 6 1 rfl rfl hv) $$ Hu; iintro Hu
  iapply (step_recv M R κ (5, 1, 1) rfl (by decide) rfl rfl) $$ H; iintro H
  iapply (step_load9 M R κ 5 1 rfl) $$ H; iintro H
  rw [wp_ret]; imodintro
  iapply Hk; isplitl [H] <;> iassumption

theorem part42 (κ : GSem nD τ sig → ℕ) (c : Dev nD) (a b d : BitVec 32) (v : FVec F S1x16x512 .f32) (e f g i j : BitVec 32) (hv : v = GB M R c (mi c 5) 1) (Kt : (Σ' (_ : BitVec 32) (_ : FVec F S1x16x512 .f32) (_ _ _ : BitVec 32), BitVec 32) → sProp 𝕄) :
    iprop((St M R κ c 28 28 27 ∗ Out M R c 14) ∗ (∀ x y z t u, (St M R κ c 28 28 28 ∗ Out M R c 15) -∗ Kt ⟨x, k0_pay49 (lnd9 R (mi c 1) 1), y, z, t, u⟩)) ⊢ wpC c (onArgs (k0_part42 (F := F)) c a b d v e f g i j) Kt := by
  rw [k0_part42_eq_skeleton]; unfold k0_part42_skel
  simp only [semSignalWord, semWaitWord, Prog.lift, Prog.bind_op, Prog.bind_ret, Prog.pure_eq_ret, Prog.bind_assoc, wp_deviceId]
  iintro ⟨⟨H, Hu⟩, Hk⟩
  iapply (step_emit M R 5 1 rfl rfl hv) $$ Hu; iintro Hu
  iapply (step_recv M R κ (1, 1, 1) rfl (by decide) rfl rfl) $$ H; iintro H
  iapply (step_load9 M R κ 1 1 rfl) $$ H; iintro H
  rw [wp_ret]; imodintro
  iapply Hk; isplitl [H] <;> iassumption

/-- All copies sent and all landings in: what is left are the waits for the own copies, in another order. -/
theorem St_Sw (κ : GSem nD τ sig → ℕ) (c : Dev nD) : St M R κ c 28 28 28 ⊢ Sw M R κ c 0 := by
  unfold St Sw
  rw [show bigSepL (sendOrd.take 28) (Fly (F := F) c) = bigSepL (waitOrd.drop 0) (Fly (F := F) c) from TalkSites.bigSepL_perm (by decide) (by decide) _]
  rw [show bigSepL (waitOrd.take 0) (SDone M R c) = (iprop(emp) : sProp 𝕄) from rfl]
  iintro ⟨HC, -, -, H1, H2, -, H3⟩
  isplitl [HC]; · iexact HC
  isplitl [H1]; · iexact H1
  isplitr; · iempintro
  isplitl [H2]; · iexact H2
  iexact H3

theorem part43 (κ : GSem nD τ sig → ℕ) (c : Dev nD) (a : BitVec 32) (v : FVec F S1x16x512 .f32) (b d e f : BitVec 32) (hv : v = GB M R c (mi c 1) 1) (Kt : PUnit → sProp 𝕄) :
    iprop((St M R κ c 28 28 28 ∗ Out M R c 15) ∗ ((Sw M R κ c 2 ∗ Out M R c 16) -∗ Kt ⟨⟩)) ⊢ wpC c (onArgs (k0_part43 (F := F)) c a v b d e f) Kt := by
  rw [k0_part43_eq_skeleton]; unfold k0_part43_skel
  simp only [semSignalWord, semWaitWord, Prog.lift, Prog.bind_op, Prog.bind_ret, Prog.pure_eq_ret, Prog.bind_assoc, wp_deviceId]
  iintro ⟨⟨H, Hu⟩, Hk⟩
  iapply (step_emit M R 1 1 rfl rfl hv) $$ Hu; iintro Hu
  ihave H := (St_Sw M R κ c) $$ H
  iapply (step_wait M R κ (0, 0, 0) rfl rfl rfl) $$ H; iintro H
  iapply (step_wait M R κ (0, 1, 0) rfl rfl rfl) $$ H; iintro H
  rw [wp_ret]; imodintro
  iapply Hk; isplitl [H] <;> iassumption

theorem part44 (κ : GSem nD τ sig → ℕ) (c : Dev nD) (Kt : PUnit → sProp 𝕄) :
    iprop(Sw M R κ c 2 ∗ (Sw M R κ c 5 -∗ Kt ⟨⟩)) ⊢ wpC c (onArgs (k0_part44 (F := F)) c) Kt := by
  rw [k0_part44_eq_skeleton]; unfold k0_part44_skel
  simp only [semSignalWord, semWaitWord, Prog.lift, Prog.bind_op, Prog.bind_ret, Prog.pure_eq_ret, Prog.bind_assoc, wp_deviceId]
  iintro ⟨H, Hk⟩
  iapply (step_wait M R κ (0, 0, 1) rfl rfl rfl) $$ H; iintro H
  iapply (step_wait M R κ (0, 1, 1) rfl rfl rfl) $$ H; iintro H
  iapply (step_wait M R κ (1, 0, 0) rfl rfl rfl) $$ H; iintro H
  rw [wp_ret]; imodintro
  iapply Hk; iexact H

theorem part45 (κ : GSem nD τ sig → ℕ) (c : Dev nD) (Kt : PUnit → sProp 𝕄) :
    iprop(Sw M R κ c 5 ∗ (Sw M R κ c 9 -∗ Kt ⟨⟩)) ⊢ wpC c (onArgs (k0_part45 (F := F)) c) Kt := by
  rw [k0_part45_eq_skeleton]; unfold k0_part45_skel
  simp only [semSignalWord, semWaitWord, Prog.lift, Prog.bind_op, Prog.bind_ret, Prog.pure_eq_ret, Prog.bind_assoc, wp_deviceId]
  iintro ⟨H, Hk⟩
  iapply (step_wait M R κ (1, 1, 0) rfl rfl rfl) $$ H; iintro H
  iapply (step_wait M R κ (1, 0, 1) rfl rfl rfl) $$ H; iintro H
  iapply (step_wait M R κ (1, 1, 1) rfl rfl rfl) $$ H; iintro H
  iapply (step_wait M R κ (2, 0, 0) rfl rfl rfl) $$ H; iintro H
  rw [wp_ret]; imodintro
  iapply Hk; iexact H

theorem part46 (κ : GSem nD τ sig → ℕ) (c : Dev nD) (Kt : PUnit → sProp 𝕄) :
    iprop(Sw M R κ c 9 ∗ (Sw M R κ c 13 -∗ Kt ⟨⟩)) ⊢ wpC c (onArgs (k0_part46 (F := F)) c) Kt := by
  rw [k0_part46_eq_skeleton]; unfold k0_part46_skel
  simp only [semSignalWord, semWaitWord, Prog.lift, Prog.bind_op, Prog.bind_ret, Prog.pure_eq_ret, Prog.bind_assoc, wp_deviceId]
  iintro ⟨H, Hk⟩
  iapply (step_wait M R κ (2, 1, 0) rfl rfl rfl) $$ H; iintro H
  iapply (step_wait M R κ (2, 0, 1) rfl rfl rfl) $$ H; iintro H
  iapply (step_wait M R κ (2, 1, 1) rfl rfl rfl) $$ H; iintro H
  iapply (step_wait M R κ (3, 0, 0) rfl rfl rfl) $$ H; iintro H
  rw [wp_ret]; imodintro
  iapply Hk; iexact H

theorem part47 (κ : GSem nD τ sig → ℕ) (c : Dev nD) (Kt : PUnit → sProp 𝕄) :
    iprop(Sw M R κ c 13 ∗ (Sw M R κ c 17 -∗ Kt ⟨⟩)) ⊢ wpC c (onArgs (k0_part47 (F := F)) c) Kt := by
  rw [k0_part47_eq_skeleton]; unfold k0_part47_skel
  simp only [semSignalWord, semWaitWord, Prog.lift, Prog.bind_op, Prog.bind_ret, Prog.pure_eq_ret, Prog.bind_assoc, wp_deviceId]
  iintro ⟨H, Hk⟩
  iapply (step_wait M R κ (3, 1, 0) rfl rfl rfl) $$ H; iintro H
  iapply (step_wait M R κ (3, 0, 1) rfl rfl rfl) $$ H; iintro H
  iapply (step_wait M R κ (3, 1, 1) rfl rfl rfl) $$ H; iintro H
  iapply (step_wait M R κ (4, 0, 0) rfl rfl rfl) $$ H; iintro H
  rw [wp_ret]; imodintro
  iapply Hk; iexact H

theorem part48 (κ : GSem nD τ sig → ℕ) (c : Dev nD) (Kt : PUnit → sProp 𝕄) :
    iprop(Sw M R κ c 17 ∗ (Sw M R κ c 21 -∗ Kt ⟨⟩)) ⊢ wpC c (onArgs (k0_part48 (F := F)) c) Kt := by
  rw [k0_part48_eq_skeleton]; unfold k0_part48_skel
  simp only [semSignalWord, semWaitWord, Prog.lift, Prog.bind_op, Prog.bind_ret, Prog.pure_eq_ret, Prog.bind_assoc, wp_deviceId]
  iintro ⟨H, Hk⟩
  iapply (step_wait M R κ (4, 1, 0) rfl rfl rfl) $$ H; iintro H
  iapply (step_wait M R κ (4, 0, 1) rfl rfl rfl) $$ H; iintro H
  iapply (step_wait M R κ (4, 1, 1) rfl rfl rfl) $$ H; iintro H
  iapply (step_wait M R κ (5, 0, 0) rfl rfl rfl) $$ H; iintro H
  rw [wp_ret]; imodintro
  iapply Hk; iexact H

theorem part49 (κ : GSem nD τ sig → ℕ) (c : Dev nD) (Kt : PUnit → sProp 𝕄) :
    iprop(Sw M R κ c 21 ∗ (Sw M R κ c 25 -∗ Kt ⟨⟩)) ⊢ wpC c (onArgs (k0_part49 (F := F)) c) Kt := by
  rw [k0_part49_eq_skeleton]; unfold k0_part49_skel
  simp only [semSignalWord, semWaitWord, Prog.lift, Prog.bind_op, Prog.bind_ret, Prog.pure_eq_ret, Prog.bind_assoc, wp_deviceId]
  iintro ⟨H, Hk⟩
  iapply (step_wait M R κ (5, 1, 0) rfl rfl rfl) $$ H; iintro H
  iapply (step_wait M R κ (5, 0, 1) rfl rfl rfl) $$ H; iintro H
  iapply (step_wait M R κ (5, 1, 1) rfl rfl rfl) $$ H; iintro H
  iapply (step_wait M R κ (6, 0, 0) rfl rfl rfl) $$ H; iintro H
  rw [wp_ret]; imodintro
  iapply Hk; iexact H

end Cert.KernelIdeal.Gen

end
-- ==== Proof.Body.lean ====
module

public import proofs.«01_k».proof.Proof.Pieces
public import proofs.«01_k».proof.Proof.BodyC

/-! # The body on one device -/

@[expose] public section

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig ℕ (Elt F) ℕ UU ℕ

variable (M : Dev nD → C6 F) (R : Dev nD → C8 F)

variable (x : Vec F S2x128x512 .f32) (wq : Vec F S512x256 .f32) (kk vv : Vec F S2x128x4x64 .f32) (wo : Vec F S256x512 .f32)

/-- The body up to its last three waits: its parts in turn. -/
theorem body50 (κ : GSem nD τ sig → ℕ) (c : Dev nD) (hM : mineOf x wq kk vv wo = M c) (Kt : Dev nD → sProp 𝕄) :
    iprop((Sb M (redOf M) κ c 0 ∗ cred (tallyAt (barCell c) 1 7) ∗ atPos (ER (F := F)) (barCell c) 0 ∅ 0 ∗ bigSepL sendOrd (Pre (F := F) c) ∗ bigSepL recvOrd (Pend (F := F) c)
        ∗ MineAny (F := F) c ∗ RedAny (F := F) c 0 ∗ RedAny (F := F) c 1 ∗ Ins c x wq kk vv wo ∗ Out M (redOf M) c 0)
      ∗ ((Sw M (redOf M) κ c 25 ∗ semVal (barCell c) 0 ∗ Own M c 0 ∗ Own M c 1 ∗ Ins c x wq kk vv wo ∗ Out M (redOf M) c 16) -∗ Kt c))
      ⊢ wpC c (onArgs (k0_part50 (F := F))) Kt := by
  rw [k0_part50_eq_skeleton]; unfold k0_part50_skel; dsimp only [wpC, onArgs]
  iintro ⟨⟨H, Hc, Ha, Hp, Hq, Hm, Hr0, Hr1, Hi, Hu⟩, Hk⟩
  rw [wp_bind]
  iapply (part1 M (redOf M) κ c _)
  isplitl [H]
  · iexact H
  iintro %a %b %d H
  dsimp only
  rw [wp_bind]
  iapply (part2 M (redOf M) κ c _ _ _ _)
  isplitl [H Hi]
  · iframe
  iintro ⟨H, Hi⟩
  dsimp only
  rw [wp_bind]
  iapply (part3 c _ _ _)
  dsimp only
  rw [wp_bind]
  iapply (part4 c _ _ _ _ _ _)
  isplitl [Hi]
  · iexact Hi
  iintro Hi
  dsimp only
  rw [wp_bind]
  iapply (part5 c _ _ _ _ _)
  isplitl [Hi]
  · iexact Hi
  iintro Hi
  dsimp only
  rw [wp_bind]
  iapply (part6 c _ _ _ _ _ _ _ _ _)
  isplitl [Hi]
  · iexact Hi
  iintro Hi
  dsimp only
  rw [wp_bind]
  iapply (part7 M (redOf M) κ c _ _ _ _ _ _ _ hM _)
  isplitl [H Hc Ha Hi Hm]
  · iframe
  iintro ⟨H, Hi, Hm⟩
  ihave Ht := (start M (redOf M) κ c) $$ [H Hm Hp Hq]
  · iframe
  icases Ht with ⟨H, Hs, Ho0, Ho1⟩
  rw [wp_bind]
  iapply (part8 c _ _ _)
  iintro %x0 %x1 %x2 %x3 %x4 %x5 %x6 %x7 %x8
  dsimp only
  rw [wp_bind]
  iapply (part9 c _ _ _ _)
  iintro %x0 %x1 %x2 %x3 %x4 %x5 %x6 %x7 %x8
  dsimp only
  rw [wp_bind]
  iapply (part10 c _ _ _ _)
  iintro %x0 %x1 %x2 %x3 %x4 %x5 %x6 %x7 %x8 %x9 %x10 %x11
  dsimp only
  rw [wp_bind]
  iapply (part11 M (redOf M) κ c _ _ _ _)
  isplitl [H]
  · iexact H
  iintro H
  rw [wp_bind]
  iapply (part12 M (redOf M) κ c _ _ _ _)
  isplitl [H]
  · iexact H
  iintro H
  rw [wp_bind]
  iapply (part13 M (redOf M) κ c _ _ _ _)
  isplitl [H]
  · iexact H
  iintro H
  rw [wp_bind]
  iapply (part14 M (redOf M) κ c _ _ _ _)
  isplitl [H]
  · iexact H
  iintro H
  rw [wp_bind]
  iapply (part15 M (redOf M) κ c _ _ _ _)
  isplitl [H Ho0]
  · iframe
  iintro ⟨H, Ho0⟩
  rw [wp_bind]
  iapply (part16 M (redOf M) κ c _ _ _ _ _)
  isplitl [H]
  · iexact H
  iintro H
  rw [wp_bind]
  iapply (part17 M (redOf M) κ c _ _ _ _)
  isplitl [H]
  · iexact H
  iintro H
  dsimp only
  rw [wp_bind]
  iapply (part18 M κ c _ _ _ _ rfl _)
  isplitl [H Hr0]
  · iframe
  iintro H
  rw [wp_bind]
  iapply (part19 M (redOf M) κ c _ _ _ _)
  isplitl [H]
  · iexact H
  iintro H
  rw [wp_bind]
  iapply (part20 M (redOf M) κ c _ _ _ _)
  isplitl [H]
  · iexact H
  iintro H
  rw [wp_bind]
  iapply (part21 M (redOf M) κ c _ _ _ (GB_own M (redOf M) c 0) _)
  isplitl [H Ho1 Hu]
  · iframe
  iintro ⟨H, Ho1, Hu⟩
  rw [wp_bind]
  iapply (part22 M (redOf M) κ c _ _ _ _)
  isplitl [H]
  · iexact H
  iintro H
  dsimp only
  rw [wp_bind]
  iapply (part23 M (redOf M) κ c _ _ _ _ _ _)
  isplitl [H]
  · iexact H
  iintro H
  rw [wp_bind]
  iapply (part24 M κ c _ _ _ rfl _)
  isplitl [H Hr1]
  · iframe
  iintro H
  rw [wp_bind]
  iapply (part25 M (redOf M) κ c _ _ _ _)
  isplitl [H]
  · iexact H
  iintro H
  rw [wp_bind]
  iapply (part26 M (redOf M) κ c _ _ _)
  isplitl [H]
  · iexact H
  iintro H
  rw [wp_bind]
  iapply (part27 M (redOf M) κ c _ _ _ _ _ (GB_own M (redOf M) c 1) _)
  isplitl [H Hu]
  · iframe
  iintro ⟨H, Hu⟩
  rw [wp_bind]
  iapply (part28 M (redOf M) κ c _ _)
  isplitl [H Hu]
  · iframe
  iintro ⟨H, Hu⟩
  rw [wp_bind]
  iapply (part29 M (redOf M) κ c _ _ _)
  isplitl [H Hu]
  · iframe
  iintro %x %y ⟨H, Hu⟩
  dsimp only
  rw [wp_bind]
  iapply (part30 M (redOf M) κ c _ _ _ _ _ (GB_mi M (redOf M) c 0 0) _)
  isplitl [H Hu]
  · iframe
  iintro %x %y %z %t ⟨H, Hu⟩
  dsimp only
  rw [wp_bind]
  iapply (part31 M (redOf M) κ c _ _ _ _ _ _ _ (GB_mi M (redOf M) c 2 0) _)
  isplitl [H Hu]
  · iframe
  iintro %x %y %z %t %u ⟨H, Hu⟩
  dsimp only
  rw [wp_bind]
  iapply (part32 M (redOf M) κ c _ _ _ _ _ _ _ _ (GB_mi M (redOf M) c 4 0) _)
  isplitl [H Hu]
  · iframe
  iintro %x %y %z %t ⟨H, Hu⟩
  dsimp only
  rw [wp_bind]
  iapply (part33 M (redOf M) κ c _ _ _ _ _ _ _ (GB_mi M (redOf M) c 6 0) _)
  isplitl [H Hu]
  · iframe
  iintro %x %y %z ⟨H, Hu⟩
  dsimp only
  rw [wp_bind]
  iapply (part34 M (redOf M) κ c _ _ _ _ _ _ (GB_mi M (redOf M) c 5 0) _)
  isplitl [H Hu]
  · iframe
  iintro %x ⟨H, Hu⟩
  rw [wp_bind]
  iapply (part35 M (redOf M) κ c _ _ _)
  isplitl [H Hu]
  · iframe
  iintro %x ⟨H, Hu⟩
  rw [wp_bind]
  iapply (part36 M (redOf M) κ c _ _ _ _)
  isplitl [H Hu]
  · iframe
  iintro ⟨H, Hu⟩
  rw [wp_bind]
  iapply (part37 M (redOf M) κ c _ _)
  isplitl [H Hu]
  · iframe
  iintro %x ⟨H, Hu⟩
  rw [wp_bind]
  iapply (part38 M (redOf M) κ c _ _ _ _)
  isplitl [H Hu]
  · iframe
  iintro ⟨H, Hu⟩
  rw [wp_bind]
  iapply (part39 M (redOf M) κ c _ _ _ (GB_mi M (redOf M) c 2 1) _)
  isplitl [H Hu]
  · iframe
  iintro %x %y %z ⟨H, Hu⟩
  dsimp only
  rw [wp_bind]
  iapply (part40 M (redOf M) κ c _ _ _ _ _ _ (GB_mi M (redOf M) c 4 1) _)
  isplitl [H Hu]
  · iframe
  iintro %x %y %z %t ⟨H, Hu⟩
  dsimp only
  rw [wp_bind]
  iapply (part41 M (redOf M) κ c _ _ _ _ _ _ _ (GB_mi M (redOf M) c 6 1) _)
  isplitl [H Hu]
  · iframe
  iintro %x %y %z %t %u %s ⟨H, Hu⟩
  dsimp only
  rw [wp_bind]
  iapply (part42 M (redOf M) κ c _ _ _ _ _ _ _ _ _ (GB_mi M (redOf M) c 5 1) _)
  isplitl [H Hu]
  · iframe
  iintro %x %y %z %t %u ⟨H, Hu⟩
  dsimp only
  rw [wp_bind]
  iapply (part43 M (redOf M) κ c _ _ _ _ _ _ (GB_mi M (redOf M) c 1 1) _)
  isplitl [H Hu]
  · iframe
  iintro ⟨H, Hu⟩
  rw [wp_bind]
  iapply (part44 M (redOf M) κ c _)
  isplitl [H]
  · iexact H
  iintro H
  rw [wp_bind]
  iapply (part45 M (redOf M) κ c _)
  isplitl [H]
  · iexact H
  iintro H
  rw [wp_bind]
  iapply (part46 M (redOf M) κ c _)
  isplitl [H]
  · iexact H
  iintro H
  rw [wp_bind]
  iapply (part47 M (redOf M) κ c _)
  isplitl [H]
  · iexact H
  iintro H
  rw [wp_bind]
  iapply (part48 M (redOf M) κ c _)
  isplitl [H]
  · iexact H
  iintro H
  rw [wp_bind]
  iapply (part49 M (redOf M) κ c _)
  isplitl [H]
  · iexact H
  iintro H
  rw [Prog.pure_eq_ret, wp_ret]; imodintro
  iapply Hk
  iframe

/-- The body, on its operands: the result's rows, with every semaphore at rest and every buffer back. -/
theorem body (κ : GSem nD τ sig → ℕ) (c : Dev nD) (hM : mineOf x wq kk vv wo = M c) (Kt : PUnit → sProp 𝕄) :
    iprop((Boot M (redOf M) κ c ∗ (∃ f : C6 F, A6.view.loc (c : Thread nD τ) ↦{fullShare} f) ∗ (∃ f : C8 F, A8.view.loc (c : Thread nD τ) ↦{fullShare} f)
        ∗ Ins c x wq kk vv wo ∗ (∃ f, A5.view.loc (c : Thread nD τ) ↦{fullShare} f))
      ∗ (((∃ W, owes (c : Thread nD τ) (0 : CellTallies nD τ sig ℕ) W) ∗ semVal (barCell c) 0 ∗ (bigSep Finset.univ fun e : Ed => semVal (sendCell c e) 0) ∗ (bigSep Finset.univ fun e : Ed => semVal (recvCell c e) 0)
          ∗ (A6.view.loc (c : Thread nD τ) ↦{fullShare} M c) ∗ (A7.view.loc (c : Thread nD τ) ↦{fullShare} land7 M c)
          ∗ (A8.view.loc (c : Thread nD τ) ↦{fullShare} redOf M c) ∗ (A9.view.loc (c : Thread nD τ) ↦{fullShare} land9 (redOf M) c)
          ∗ Ins c x wq kk vv wo ∗ (A5.view.loc (c : Thread nD τ) ↦{fullShare} GG M (redOf M) c)) -∗ Kt ⟨⟩))
      ⊢ wpC c (onArgs (cc0_body (F := F))) Kt := by
  rw [cc0_body_eq_skeleton]; unfold cc0_body_skel; dsimp only [wpC, onArgs]
  iintro ⟨⟨HB, ⟨%f6, H6⟩, ⟨%f8, H8⟩, Hi, ⟨%f5, H5⟩⟩, Hk⟩
  ihave HB := (boot M (redOf M) κ c) $$ HB
  icases HB with ⟨H, Hc, Ha, Hp, Hq⟩
  ihave H8 := (Entails.of_eq (Red_split c f8)) $$ H8
  icases H8 with ⟨Hr0, Hr1⟩
  ihave Hu := (Out_intro M (redOf M) c f5) $$ H5
  rw [wp_bind]
  iapply (body50 M x wq kk vv wo κ c hM _)
  isplitl [H Hc Ha Hp Hq H6 Hr0 Hr1 Hi Hu]
  · unfold MineAny RedAny
    iframe
    isplitl [H6]; · iexists f6; iexact H6
    isplitl [Hr0]; · iexists f8; iexact Hr0
    iexists f8; iexact Hr1
  iintro ⟨H, Hs, Ho0, Ho1, Hi, Hu⟩
  simp only [Prog.lift, Prog.bind_op, Prog.bind_ret, Prog.pure_eq_ret, Prog.bind_assoc]
  iapply (step_wait M (redOf M) κ (6, 1, 0) rfl rfl rfl) $$ H; iintro H
  iapply (step_wait M (redOf M) κ (6, 0, 1) rfl rfl rfl) $$ H; iintro H
  iapply (step_wait M (redOf M) κ (6, 1, 1) rfl rfl rfl) $$ H; iintro H
  ihave Hf := (finish M κ c) $$ [H Ho0 Ho1]
  · iframe
  icases Hf with ⟨HO, H1, H2, H6, H7, H8, H9⟩
  ihave Hu := (Out_elim M (redOf M) c) $$ Hu
  rw [wp_ret]; imodintro
  iapply Hk
  iframe

end Cert.KernelIdeal.Gen

end
-- ==== Proof.Talk.lean ====
module

public import Idealize.ShloMosaic.Lib.Pipeline.TalkSites
public import Idealize.ShloMosaic.Lib.Pipeline.RegionTalk
public import proofs.«01_k».proof.Proof.Gen.KernelIdeal.Regions
public import proofs.«01_k».proof.Proof.Gen.KernelIdeal.Points
public import proofs.«01_k».proof.Proof.Body

/-! # Funding the protocol

What the launch deals each device: the credit for the units that the others owe it, and the tokens of the duties it pays. -/

@[expose] public section

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.SiteBlocks (L lv mem_L' mayWait_of)
open Idealize.ShloMosaic.TalkSites (Pay tallyL tallyL_pos Fam)

variable {F : FTy → Type} [FloatOps F] [Named F]

local notation "𝕄" => MT nD τ sig ℕ (Elt F) ℕ UU ℕ

/-! ## The credit -/

theorem tallyL_map {I : Type} (f : I → Pay nD τ sig) (l : List I) : tallyL (l.map f) = (l.map fun x => (f x).tally).sum := by
  induction l with
  | nil => rfl
  | cons x l ih => rw [List.map_cons, List.map_cons, List.sum_cons, ← ih]; rfl

theorem tallyL_univ {I : Type} [Fintype I] [DecidableEq I] (f : I → Pay nD τ sig) (l : List I) (hl : l.Nodup) (hu : l.toFinset = Finset.univ) :
    tallyL (l.map f) = ∑ x, (f x).tally := by
  rw [tallyL_map, ← hu, List.sum_toFinset _ hl]

/-- The devices `i + 1` places on, as a permutation. -/
def plE (i : Fin 7) : Dev nD ≃ Dev nD := ⟨fun c => pl c i, fun c => mi c i, fun c => mi_pl c i, fun c => pl_mi c i⟩

/-- The units owed to device `c`. -/
def dueTo (c : Dev nD) : List (Pay nD τ sig) := (barCell c, 1, 7) :: sendOrd.map fun e => (recvCell c e, ixOf e, NN)

/-- What device `c` owes at launch. -/
abbrev O₀ (c : Dev nD) : CellTallies nD τ sig ℕ := tallyL (payBL c 0)

theorem owed_sum : (∑ d, O₀ d) = ∑ d, tallyL (dueTo d) := by
  have h1 (d : Dev nD) : O₀ d = (∑ j : Fin 7, tallyAt (barCell (plE j d)) 1 1) + ∑ e : Ed, tallyAt (recvCell (plE e.1 d) e) (ixOf e) NN := by
    unfold O₀ payBL payL
    rw [TalkSites.tallyL_append, show (List.finRange 7).drop 0 = List.finRange 7 from rfl, show sendOrd.drop 0 = sendOrd from rfl,
      tallyL_univ (payB d) (List.finRange 7) (by decide) (by decide), tallyL_univ (payS d) sendOrd (by decide) (by decide)]
    rfl
  have h2 (d : Dev nD) : tallyL (dueTo d) = (∑ _j : Fin 7, tallyAt (barCell d) 1 1) + ∑ e : Ed, tallyAt (recvCell d e) (ixOf e) NN := by
    unfold dueTo
    rw [tallyL, tallyL_univ _ sendOrd (by decide) (by decide)]
    congr 1
    simp only [Fin.sum_univ_succ, Fin.sum_univ_zero, tallyAt_add, add_zero]
  rw [Finset.sum_congr rfl fun d _ => h1 d, Finset.sum_congr rfl fun d _ => h2 d, Finset.sum_add_distrib, Finset.sum_add_distrib]
  congr 1
  · rw [Finset.sum_comm, Finset.sum_comm (s := Finset.univ (α := Dev nD))]
    exact Finset.sum_congr rfl fun j _ => Equiv.sum_comp (plE j) fun d => tallyAt (barCell d) 1 1
  · rw [Finset.sum_comm, Finset.sum_comm (s := Finset.univ (α := Dev nD))]
    exact Finset.sum_congr rfl fun e _ => Equiv.sum_comp (plE e.1) fun d => tallyAt (recvCell d e) (ixOf e) NN

/-- The launch deals device `c` the credit for what is owed to it. -/
theorem credit (c : Dev nD) : (Pipeline.launchCred O₀ c : sProp 𝕄)
    ⊢ iprop(cred (tallyAt (barCell c) 1 7) ∗ bigSep Finset.univ fun e : Ed => cred (tallyAt (recvCell c e) (ixOf e) NN)) := by
  rw [Pipeline.launchCred_of_sum O₀ (fun d => tallyL (dueTo d)) owed_sum (fun d g hg => by
    obtain ⟨i, hi⟩ := DFunLike.ne_iff.mp hg
    obtain ⟨x, hx, rfl, -⟩ := tallyL_pos (Nat.pos_of_ne_zero hi)
    rcases List.mem_cons.mp hx with rfl | hx
    · rfl
    · obtain ⟨e, -, rfl⟩ := List.mem_map.mp hx; rfl) c, TalkSites.cred_tallyL, dueTo, bigSepL_cons, bigSepL_map, bySend]
  exact .rfl

/-- What a device owes at launch sits above the staging waits. -/
theorem owed_above (c : Dev nD) (g : GSem nD τ sig) (i : ℕ) (h : 0 < O₀ c g i) : i ∈ L 4 g ∧ 0 < lv g i := by
  obtain ⟨x, hx, rfl, rfl⟩ := tallyL_pos h
  rcases List.mem_append.mp hx with hx | hx
  · obtain ⟨j, -, rfl⟩ := List.mem_map.mp hx
    exact ⟨mem_L' rfl (show 1 < 4 by decide), Nat.one_pos⟩
  · obtain ⟨e, -, rfl⟩ := List.mem_map.mp hx
    refine ⟨mem_L' rfl ?_, ?_⟩
    · have := e.2.1.isLt; show 2 + e.2.1.val < 4; omega
    · show 0 < 2 + e.2.1.val; omega

/-! ## The tokens -/

variable (M : Dev nD → C6 F) (R : Dev nD → C8 F)

theorem toks_split (c : Dev nD) (Φ : GSem nD τ sig × ℕ × Fin 7 → sProp 𝕄) : bigSep (Fm.toks c 0) Φ
    = iprop((bigSep Finset.univ fun j : Fin 7 => Φ (barCell (pl c j), 0, j.rev)) ∗ (bigSep Finset.univ fun e : Ed => Φ (sendCell c e, 0, 0))
      ∗ bigSep Finset.univ fun e : Ed => Φ (recvCell (pl c e.1) e, 0, 0)) := by
  have hs {e e' : Ed} {r r' : Fin 2} {d d' : Dev nD} {t t' : ℕ × Fin 7}
      (h : ((((d : Thread nD τ), SemLoc.dma (sIx e r)), t) : GSem nD τ sig × ℕ × Fin 7) = (((d' : Thread nD τ), SemLoc.dma (sIx e' r')), t')) : (e, r) = (e', r') := by
    have h1 : sIx e r = sIx e' r' := SemLoc.dma.inj (congrArg (fun x : GSem nD τ sig × ℕ × Fin 7 => x.1.2) h)
    rw [← dcd_sIx e r, ← dcd_sIx e' r', h1]
  show bigSep (toksS c) Φ = _
  unfold toksS
  rw [bigSep_union, bigSep_union, bigSep_image_of_injOn, bigSep_image_of_injOn, bigSep_image_of_injOn]
  · rfl
  · exact fun e _ e' _ h => congrArg Prod.fst (hs h)
  · exact fun e _ e' _ h => congrArg Prod.fst (hs h)
  · exact fun j _ j' _ h => Fin.rev_injective (congrArg (fun x : GSem nD τ sig × ℕ × Fin 7 => x.2.2) h)
  · refine Finset.disjoint_left.mpr fun x hx hx' => ?_
    obtain ⟨e, -, rfl⟩ := Finset.mem_image.mp hx
    obtain ⟨e', -, h⟩ := Finset.mem_image.mp hx'
    exact absurd (congrArg Prod.snd (hs h)) (show ¬ (1 : Fin 2) = 0 by decide)
  · refine Finset.disjoint_left.mpr fun x hx hx' => ?_
    obtain ⟨j, -, rfl⟩ := Finset.mem_image.mp hx
    rcases Finset.mem_union.mp hx' with hx' | hx'
    · obtain ⟨e, -, h⟩ := Finset.mem_image.mp hx'
      exact nomatch congrArg (fun x : GSem nD τ sig × ℕ × Fin 7 => x.1.2) h
    · obtain ⟨e, -, h⟩ := Finset.mem_image.mp hx'
      exact nomatch congrArg (fun x : GSem nD τ sig × ℕ × Fin 7 => x.1.2) h

theorem dorm_split (Φ : SemLoc sig → sProp 𝕄) : bigSep (Fm.dorm 0) Φ
    = bigSep Finset.univ fun p : Ed × Fin 2 => Φ (.dma (sIx p.1 p.2)) := by
  show bigSep dormS Φ = _
  unfold dormS
  refine bigSep_image_of_injOn (fun p _ p' _ h => ?_) Φ
  exact (dcd_sIx p.1 p.2).symm.trans ((congrArg dcd (SemLoc.dma.inj h)).trans (dcd_sIx p'.1 p'.2))

/-- The body's own semaphores. -/
def osem (p : Ed × Fin 2) : SemLoc sig := .dma (sIx p.1 p.2)

theorem osem_facts : Pipeline.OwnSemFacts spec0 osem where
  isScoped p := by revert p; decide
  inj p p' h := (dcd_sIx p.1 p.2).symm.trans ((congrArg dcd (SemLoc.dma.inj h)).trans (dcd_sIx p'.1 p'.2))
  disj p w s h := by
    have h1 := sIx_ge p.1 p.2
    have h2 : ∀ (w : Fin 6) (s : Fin (spec0 w).nbuf), ((spec0 w).sem s).val < 6 := by decide
    rw [SemLoc.dma.inj h] at h1
    exact absurd h1 (Nat.not_le.mpr (h2 w s))

theorem own_split (c : Dev nD) : (Pipeline.ownSems0 osem c : sProp 𝕄)
    = iprop((bigSep Finset.univ fun e : Ed => semVal (sendCell c e) 0) ∗ bigSep Finset.univ fun e : Ed => semVal (recvCell c e) 0) := by
  unfold Pipeline.ownSems0
  rw [bigSep_univ_prod, ← bigSep_sep']
  exact bigSep_congr fun e _ => BI.bigSep_fin_two fun r => (semVal ((c : Thread nD τ), osem (e, r)) 0 : sProp 𝕄)

/-! ## Opening the protocol at the body's entry -/

/-- What rides from the launch to the body on device `c`. -/
def Tk (c : Dev nD) : sProp 𝕄 := iprop(Pipeline.launchCred O₀ c ∗ Fm.launched ER (Rd M R) (fun _ => Finset.univ) c)

/-- The protocol as the body finds it, beside what the device owes and its landing slots. -/
def Xk (c : Dev nD) : sProp 𝕄 := iprop(∃ κ : GSem nD τ sig → ℕ,
  Cx M R κ ∗ (bigSep Finset.univ fun j : Fin 7 => dutyTok (ER (F := F)) (barCell (pl c j)) 0 j.rev) ∗ (bigSep Finset.univ fun j : Fin 7 => reached (ER (F := F)) (barCell (pl c j)) 0)
    ∗ (bigSep Finset.univ fun e : Ed => dutyTok (ER (F := F)) (sendCell c e) 0 0) ∗ (bigSep Finset.univ fun e : Ed => dutyTok (ER (F := F)) (recvCell (pl c e.1) e) 0 0)
    ∗ (bigSep Finset.univ fun e : Ed => iprop(atPos (ER (F := F)) (sendCell c e) 0 ∅ 0 ∗ reached (ER (F := F)) (sendCell c e) 0))
    ∗ (bigSep Finset.univ fun e : Ed => iprop(atPos (ER (F := F)) (recvCell c e) 0 ∅ 0 ∗ reached (ER (F := F)) (recvCell c e) 0))
    ∗ (bigSep Finset.univ fun e : Ed => cred (tallyAt (recvCell c e) (ixOf e) NN))
    ∗ cred (tallyAt (barCell c) 1 7) ∗ atPos (ER (F := F)) (barCell c) 0 ∅ 0)

theorem open_cells (κ : GSem nD τ sig → ℕ) (c : Dev nD) :
    iprop(Fm.cellInvs ER (Rd M R) κ ∗ (bigSep (Fm.dorm 0) fun sm => openTok (ER (F := F)) ((c : Thread nD τ), sm)) ∗ Pipeline.ownSems0 osem c)
      ⊢ (|={Set.univ}=> ((bigSep Finset.univ fun e : Ed => iprop(atPos (ER (F := F)) (sendCell c e) 0 ∅ 0 ∗ reached (ER (F := F)) (sendCell c e) 0))
        ∗ (bigSep Finset.univ fun e : Ed => iprop(atPos (ER (F := F)) (recvCell c e) 0 ∅ 0 ∗ reached (ER (F := F)) (recvCell c e) 0))) : sProp 𝕄) := by
  have h1 (p : Ed × Fin 2) (_ : p ∈ Finset.univ) : iprop(Fm.cellInvs ER (Rd M R) κ ∗ (openTok (ER (F := F)) ((c : Thread nD τ), SemLoc.dma (sIx p.1 p.2)) ∗ semVal ((c : Thread nD τ), osem p) 0))
      ⊢ (|={Set.univ}=> iprop(atPos (ER (F := F)) ((c : Thread nD τ), SemLoc.dma (sIx p.1 p.2)) 0 ∅ 0 ∗ reached (ER (F := F)) ((c : Thread nD τ), SemLoc.dma (sIx p.1 p.2)) 0) : sProp 𝕄) := by
    iintro ⟨#HI, Ho, Hv⟩
    ihave Hc := (Fm.cellInvs_dorm ER (Rd M R) κ c (mem_dormS p.1 p.2)) $$ HI
    iapply (Rounds.cell_open ER (Rd M R) (g := ((c : Thread nD τ), SemLoc.dma (sIx p.1 p.2))) (Set.mem_univ _))
    isplitl [Hc]; · iexact Hc
    isplitl [Ho]; · iexact Ho
    iexact Hv
  have h2 : (bigSep Finset.univ fun p : Ed × Fin 2 => iprop(atPos (ER (F := F)) ((c : Thread nD τ), SemLoc.dma (sIx p.1 p.2)) 0 ∅ 0 ∗ reached (ER (F := F)) ((c : Thread nD τ), SemLoc.dma (sIx p.1 p.2)) 0) : sProp 𝕄)
      = iprop((bigSep Finset.univ fun e : Ed => iprop(atPos (ER (F := F)) (sendCell c e) 0 ∅ 0 ∗ reached (ER (F := F)) (sendCell c e) 0))
        ∗ (bigSep Finset.univ fun e : Ed => iprop(atPos (ER (F := F)) (recvCell c e) 0 ∅ 0 ∗ reached (ER (F := F)) (recvCell c e) 0))) := by
    rw [bigSep_univ_prod, ← bigSep_sep']
    exact bigSep_congr fun e _ => BI.bigSep_fin_two fun r : Fin 2 =>
      (iprop(atPos (ER (F := F)) ((c : Thread nD τ), SemLoc.dma (sIx e r)) 0 ∅ 0 ∗ reached (ER (F := F)) ((c : Thread nD τ), SemLoc.dma (sIx e r)) 0) : sProp 𝕄)
  rw [← h2, dorm_split]
  unfold Pipeline.ownSems0
  rw [← bigSep_sep']
  exact (bigSep_with_persistent h1).trans (bigSep_fupd _ _)

theorem opened (c : Dev nD) : iprop(Tk M R c ∗ Pipeline.ownSems0 osem c ∗ levAts (L 4) lv) ⊢ (|={Set.univ}=> Xk M R c : sProp 𝕄) := by
  have hr : (bigSep Finset.univ fun n : Dev nD => reached (ER (F := F)) ((n : Thread nD τ), Fm.bar) 0 : sProp 𝕄)
      ⊢ bigSep Finset.univ fun j : Fin 7 => reached (ER (F := F)) (barCell (pl c j)) 0 := by
    exact (bigSep_of_persistent Finset.univ _).trans (bigSep_mono fun j _ =>
      bigSep_elim (Φ := fun n : Dev nD => (reached (ER (F := F)) ((n : Thread nD τ), Fm.bar) 0 : sProp 𝕄)) (Finset.mem_univ (pl c j)))
  unfold Tk Xk Fam.launched Fam.barPos Fam.rides Cx
  rw [show (Finset.univ : Finset (Fin 1)) = {0} from rfl, bigSep_singleton, toks_split]
  iintro ⟨⟨Hcr, ⟨⟨%κ, #HI⟩, Hat, #Hr⟩, -, Hop, ⟨Ht1, Ht2, Ht3⟩⟩, Hos, #HL⟩
  imod (open_cells M R κ c) $$ [Hop Hos] with ⟨Hs, Hv⟩
  · isplitr; · iexact HI
    isplitl [Hop]; · iexact Hop
    iexact Hos
  ihave Hc := (credit c) $$ Hcr
  icases Hc with ⟨Hc1, Hc2⟩
  ihave Hr' := hr $$ Hr
  imodintro
  iexists κ
  isplitr
  · isplitr; · iexact HI
    iexact HL
  iframe
  isplitl [Hr']; · iexact Hr'
  iexact Hat

end Cert.KernelIdeal.Gen

end
-- ==== Proof.Region.lean ====
module

public import proofs.«01_k».proof.Proof.Talk
public import Idealize.ShloMosaic.Lib.Pipeline.Frame
public import Idealize.ShloMosaic.Lib.Pipeline.ValueKit

/-! # The kernel's region of @main

The proof data of the one grid point, the body's obligation there, and the region's record. -/

@[expose] public section

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.SiteBlocks (L lv mem_L' mayWait_of)
open Idealize.ShloMosaic.TalkSites (Pay tallyL tallyL_pos Fam)

variable {F : FTy → Type} [FloatOps F] [Named F]

variable (m : (ℓ : Loc nD τ sig) → Buf (Elt F) ℓ)

local notation "𝕄" => MT nD τ sig ℕ (Elt F) ℕ UU ℕ

open Idealize.ShloMosaic.Pipeline (Dat Cfg BodyObligation)

/-! ## Proof data -/

/-- The partial sums of each device, from its five operands as the host operations leave them. -/
def MM (c : Dev nD) : C6 F := mineOf (V1 m c main_arg0) (V1 m c main_arg1) (V1 m c main_v9) (V1 m c main_v14) (V1 m c main_arg4)

/-- The whole result as device `c` assembles it. -/
def OUT (c : Dev nD) : S2x128x512.Idx → Elt F .f32 := GG (MM m) (redOf (MM m)) c

/-- What the body needs beside its windows. -/
def before0 (c : Dev nD) : sProp 𝕄 := iprop(Xk (MM m) (redOf (MM m)) c ∗ Pipeline.scopedRest spec0 c ∗ ∃ r, prngReg c r)

/-- What it leaves beside its windows. -/
def after0 (c : Dev nD) : sProp 𝕄 := iprop((semVal (barCell c) 0 ∗ Pipeline.ownSems0 osem c) ∗ Pipeline.scopedRest spec0 c ∗ ∃ r, prngReg c r)

def dat0 (c : Dev nD) : Dat τ (Elt F) ℕ ℕ UU ℕ cfg0 c where
  A w := V1 m c (Proc.devRef .tc (Pipeline.arrRef cfg0.spec w))
  after w _ := match w with
    | ⟨0, _⟩ => V1 m c main_arg0
    | ⟨1, _⟩ => V1 m c main_arg1
    | ⟨2, _⟩ => V1 m c main_v9
    | ⟨3, _⟩ => V1 m c main_v14
    | ⟨4, _⟩ => V1 m c main_arg4
    | ⟨5, _⟩ => OUT m c
    | ⟨_ + 6, h⟩ => absurd h (Nat.not_lt.2 (Nat.le_add_left _ _))
  Φ t := match t with
    | ⟨0, _⟩ => before0 m c
    | ⟨_ + 1, _⟩ => after0 c
  q _ := fullShare
  owed t := match t with
    | ⟨0, _⟩ => O₀ c
    | ⟨_ + 1, _⟩ => 0

def pdats (p : Fin 1) (c : Dev nD) : Dat τ (Elt F) ℕ ℕ UU ℕ (cfgs p) c := match p with
  | ⟨0, _⟩ => dat0 m c
  | ⟨_ + 1, h⟩ => absurd h (Nat.not_lt.2 (Nat.le_add_left _ _))

/-! ## What the windows hold -/

theorem bef0 (c : Dev nD) (d) : (dat0 m c).before 0 t0_0 d = V1 m c main_arg0 := by
  rw [Dat.before_fetched (dat0 m c) 0 t0_0 (fetch0_0 t0_0) d]
  funext y
  exact (show (dat0 m c).fetched 0 t0_0 d y = ((cfg0.win 0).blk t0_0).view.read (Elt F) ((dat0 m c).A 0) y from rfl).trans
    (congrArg (V1 m c main_arg0) (funext fun a => Fin.ext (by show 0 * _ + 1 * _ = _; omega)))

theorem bef1 (c : Dev nD) (d) : (dat0 m c).before 1 t0_0 d = V1 m c main_arg1 := by
  rw [Dat.before_fetched (dat0 m c) 1 t0_0 (fetch0_1 t0_0) d]
  funext y
  exact (show (dat0 m c).fetched 1 t0_0 d y = ((cfg0.win 1).blk t0_0).view.read (Elt F) ((dat0 m c).A 1) y from rfl).trans
    (congrArg (V1 m c main_arg1) (funext fun a => Fin.ext (by show 0 * _ + 1 * _ = _; omega)))

theorem bef2 (c : Dev nD) (d) : (dat0 m c).before 2 t0_0 d = V1 m c main_v9 := by
  rw [Dat.before_fetched (dat0 m c) 2 t0_0 (fetch0_2 t0_0) d]
  funext y
  exact (show (dat0 m c).fetched 2 t0_0 d y = ((cfg0.win 2).blk t0_0).view.read (Elt F) ((dat0 m c).A 2) y from rfl).trans
    (congrArg (V1 m c main_v9) (funext fun a => Fin.ext (by show 0 * _ + 1 * _ = _; omega)))

theorem bef3 (c : Dev nD) (d) : (dat0 m c).before 3 t0_0 d = V1 m c main_v14 := by
  rw [Dat.before_fetched (dat0 m c) 3 t0_0 (fetch0_3 t0_0) d]
  funext y
  exact (show (dat0 m c).fetched 3 t0_0 d y = ((cfg0.win 3).blk t0_0).view.read (Elt F) ((dat0 m c).A 3) y from rfl).trans
    (congrArg (V1 m c main_v14) (funext fun a => Fin.ext (by show 0 * _ + 1 * _ = _; omega)))

theorem bef4 (c : Dev nD) (d) : (dat0 m c).before 4 t0_0 d = V1 m c main_arg4 := by
  rw [Dat.before_fetched (dat0 m c) 4 t0_0 (fetch0_4 t0_0) d]
  funext y
  exact (show (dat0 m c).fetched 4 t0_0 d y = ((cfg0.win 4).blk t0_0).view.read (Elt F) ((dat0 m c).A 4) y from rfl).trans
    (congrArg (V1 m c main_arg4) (funext fun a => Fin.ext (by show 0 * _ + 1 * _ = _; omega)))

/-- The result array after the write-back. -/
theorem final (c : Dev nD) : (dat0 m c).arrAt 5 cfg0.N = OUT m c := by
  refine (dat0 m c).arrAt_eq_of_after_last 5 t0_0 (by decide +kernel) _ fun j => ?_
  blk_simp
  rfl

/-- The arrays that the kernel only reads are as they were. -/
theorem arrAt_in' (c : Dev nD) (w : Fin 6) (h : (cfg0.win w).isOut = false) (n : ℕ) : (dat0 m c).arrAt w n = (dat0 m c).A w :=
  Dat.arrAt_in (dat0 m c) w h n

/-! ## The body's obligation -/

theorem owesAt_elim (c : Dev nD) (j : Fin (cfg0.N + 1)) (o : CellTallies nD τ sig ℕ) (h : (dat0 m c).owed j = o) :
    ((dat0 m c).owesAt 0 j : sProp 𝕄) ⊢ iprop(∃ W, owes (c : Thread nD τ) o W) := by
  unfold Dat.owesAt Pipeline.owesWithin; rw [h]
  iintro ⟨%W, -, HO⟩; iexists W; iexact HO

theorem owesAt_intro (c : Dev nD) (j : Fin (cfg0.N + 1)) (o : CellTallies nD τ sig ℕ) (h : (dat0 m c).owed j = o) :
    iprop(∃ W, owes (c : Thread nD τ) o W) ⊢ ((dat0 m c).owesAt 0 j : sProp 𝕄) := by
  unfold Dat.owesAt Pipeline.owesWithin; rw [h]
  iintro ⟨%W, HO⟩; iexists W
  isplitr; · ipureintro; exact fun _ _ => Or.inl trivial
  iexact HO

theorem stage_pt (c : Dev nD) (b : Ref sig .tc) (f : b.ty.Contents (Elt F)) : (owns (c : Thread nD τ) (Memref.whole b) fullShare f : sProp 𝕄)
    = ((Memref.whole b).view.loc (c : Thread nD τ) ↦{fullShare} f) := owns_whole _ _ _ _

theorem prog_eq : defs₀ (F := F) .tc cfg0.body (cfg0.bodyArgs t0_0 (cfg0.slots t0_0)) = onArgs (cc0_body (F := F)) := by
  unfold onArgs
  rfl

set_option backward.isDefEq.respectTransparency.types false in
set_option maxHeartbeats 1600000 in
theorem body0 (c : Dev nD) : BodyObligation (dat0 m c) defs₀ 𝒱₀ 0 Set.univ := fun t => by
  obtain rfl := fin_N0 t
  rw [bigSep_W0, bigSep_W0]
  simp only [bef0, bef1, bef2, bef3, bef4]
  rw [prog_eq, show (dat0 m c).Φ t0_0.castSucc = before0 m c from rfl, show (dat0 m c).Φ t0_0.succ = after0 c from rfl,
    show (dat0 m c).after 0 t0_0 = V1 m c main_arg0 from rfl, show (dat0 m c).after 1 t0_0 = V1 m c main_arg1 from rfl,
    show (dat0 m c).after 2 t0_0 = V1 m c main_v9 from rfl, show (dat0 m c).after 3 t0_0 = V1 m c main_v14 from rfl,
    show (dat0 m c).after 4 t0_0 = V1 m c main_arg4 from rfl, show (dat0 m c).after 5 t0_0 = OUT m c from rfl]
  simp only [show stage0_0 0 = A0 from rfl, show stage0_1 0 = A1 from rfl, show stage0_2 0 = A2 from rfl, show stage0_3 0 = A3 from rfl,
    show stage0_4 0 = A4 from rfl, show stage0_5 0 = A5 from rfl]
  simp only [stage_pt]
  unfold before0 after0 Xk
  rw [scopedRest0_eq, own_split]
  iintro ⟨⟨⟨%κ, HX⟩, ⟨⟨%f6, H6⟩, ⟨%f7, H7⟩, ⟨%f8, H8⟩, ⟨%f9, H9⟩⟩, Hp⟩, HO, ⟨%d0, H0⟩, ⟨%d1, H1⟩, ⟨%d2, H2⟩, ⟨%d3, H3⟩, ⟨%d4, H4⟩, ⟨%d5, H5⟩⟩
  icases HX with ⟨HC, Hb1, Hb2, Hd1, Hd2, Ha1, Ha2, Hc1, Hc2, HaB⟩
  ihave HO' := (owesAt_elim m c t0_0.castSucc (O₀ c) rfl) $$ HO
  iapply (body (MM m) (V1 m c main_arg0) (V1 m c main_arg1) (V1 m c main_v9) (V1 m c main_v14) (V1 m c main_arg4) κ c rfl _)
  isplitr [Hp]
  · unfold Boot Ins
    isplitr [H0 H1 H2 H3 H4 H5 H6 H8]
    · isplitl [HC]; · iexact HC
      isplitl [Hb1]; · iexact Hb1
      isplitl [Hb2]; · iexact Hb2
      isplitl [Hd1]; · iexact Hd1
      isplitl [Hd2]; · iexact Hd2
      isplitl [Ha1]; · iexact Ha1
      isplitl [Ha2]; · iexact Ha2
      isplitl [Hc1]; · iexact Hc1
      isplitl [Hc2]; · iexact Hc2
      isplitl [HaB]; · iexact HaB
      isplitl [HO']; · iexact HO'
      isplitl [H7]; · iexists f7; iexact H7
      iexists f9; iexact H9
    isplitl [H6]; · iexists f6; iexact H6
    isplitl [H8]; · iexists f8; iexact H8
    isplitr [H5]
    · isplitl [H0]; · iexact H0
      isplitl [H1]; · iexact H1
      isplitl [H2]; · iexact H2
      isplitl [H3]; · iexact H3
      iexact H4
    iexists ((dat0 m c).before 5 t0_0 d5); iexact H5
  unfold Ins
  iintro ⟨HO, Hb, Hs, Hr, H6, H7, H8, H9, ⟨H0, H1, H2, H3, H4⟩, H5⟩
  isplitl [Hb Hs Hr H6 H7 H8 H9 Hp]
  · isplitl [Hb Hs Hr]
    · isplitl [Hb]; · iexact Hb
      isplitl [Hs] <;> iassumption
    isplitr [Hp]
    · isplitl [H6]; · iexists _; iexact H6
      isplitl [H7]; · iexists _; iexact H7
      isplitl [H8]; · iexists _; iexact H8
      iexists _; iexact H9
    iexact Hp
  isplitl [HO]; · iapply (owesAt_intro m c t0_0.succ 0 rfl); iexact HO
  isplitl [H0]; · iexact H0
  isplitl [H1]; · iexact H1
  isplitl [H2]; · iexact H2
  isplitl [H3]; · iexact H3
  isplitl [H4]; · iexact H4
  iexact H5

/-! ## The region -/

/-- @main's buffers at the end: the result's array holds what the device assembled. -/
def VE (c : Dev nD) : Valuation τ sig (Elt F) := Function.update (V1 m c) (Proc.devRef .tc main_v15) (OUT m c)

/-- The buffers that bypass the region. -/
abbrev rest : Finset (DevRef τ sig) := Pipeline.ucRefs τ sig \ Pipeline.arrRefs spec0

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem VE_ne (c : Dev nD) (r : Ref sig .tc) (h : r ≠ main_v15) : VE m c (Proc.devRef .tc r) = V1 m c (Proc.devRef .tc r) :=
  Function.update_of_ne (fun h' => h (Proc.devRef_injective _ h')) _ _

theorem at_exit (c : Dev nD) (w : Fin 6) : (dat0 m c).arrAt w cfg0.N = VE m c (Proc.devRef .tc (Pipeline.arrRef spec0 w)) := by
  by_cases h : w = 5
  · subst h
    exact (final m c).trans (Function.update_self (Proc.devRef .tc main_v15) (OUT m c) (V1 m c)).symm
  · refine (arrAt_in' m c w (by revert w; decide) cfg0.N).trans (VE_ne m c _ (by revert w; decide)).symm

theorem rest_eq (c : Dev nD) : ∀ b ∈ rest \ (∅ : Finset (DevRef τ sig)), VE m c b = V1 m c b := fun b hb =>
  Function.update_of_ne (fun h => (Finset.mem_sdiff.mp (Finset.mem_sdiff.mp hb).1).2 (by rw [h]; decide)) _ _

theorem in0 (c : Dev nD) : iprop(Pipeline.scopedRest (Pipeline.pin (pcfgs (F := F)) adm 0).spec c ∗ (∃ r, prngReg c r)
      ∗ StableHlo.held (c.tc : Thread nD τ) ∅ (V1 m c) ∗ Xk (MM m) (redOf (MM m)) c) ⊢ ((pdats m 0 c).Φ 0 : sProp 𝕄) := by
  show _ ⊢ before0 m c
  unfold before0
  iintro ⟨Hs, Hp, -, HX⟩
  isplitl [HX]; · iexact HX
  isplitl [Hs]; · iexact Hs
  iexact Hp

theorem out0 (c : Dev nD) : ((pdats m 0 c).Φ (Fin.last (Pipeline.pin (pcfgs (F := F)) adm 0).N) : sProp 𝕄)
    ⊢ iprop(Pipeline.scopedRest (Pipeline.pin (pcfgs (F := F)) adm 0).spec c ∗ (∃ r, prngReg c r)
      ∗ StableHlo.held (c.tc : Thread nD τ) ∅ (VE m c) ∗ Pipeline.ownSems0 osem c ∗ semVal (barCell c) 0) := by
  show after0 c ⊢ _
  unfold after0
  iintro ⟨⟨Hb, Ho⟩, Hs, Hp⟩
  isplitl [Hs]; · iexact Hs
  isplitl [Hp]; · iexact Hp
  isplitr
  · unfold StableHlo.held; rw [bigSep_empty]; iempintro
  isplitl [Ho]; · iexact Ho
  iexact Hb

theorem above (c : Dev nD) (t : Fin (cfg0.N + 1)) (g : GSem nD τ sig) (i : ℕ) (h : 0 < (dat0 m c).owed t g i) : i ∈ L 4 g ∧ 0 < lv g i := by
  obtain ⟨k, hk⟩ := t
  cases k with
  | zero => exact owed_above c g i h
  | succ k => exact absurd (show 0 < (0 : CellTallies nD τ sig ℕ) g i from h) (Nat.lt_irrefl 0)

set_option backward.isDefEq.respectTransparency.types false in
/-- The region's record. -/
def reg : Pipeline.RegionSeg (pcfgs (F := F)) adm (pdats m) 0 defs₀ 𝒱₀ (L 4) lv 0 :=
  Pipeline.RegionSeg.ofTalk (pcfgs (F := F)) adm (pdats m) 0 defs₀ 𝒱₀ (L 4) lv 0 osem osem_facts
    ∅ rest (Finset.empty_subset _) kitP rfl (fun c => (body0 m c).loose)
    (fun _ => 0) O₀ (fun c => (zero_add (O₀ c)).symm) (fun _ => rfl) (fun _ => rfl) (fun c => (pdats m 0 c).share_full fun _ => rfl)
    (fun c => V1 m c) (fun c => VE m c) (rest_eq m)
    (Tk (MM m) (redOf (MM m))) (fun c => semVal (barCell c) 0) (Xk (MM m) (redOf (MM m))) (fun c => semVal (barCell c) 0)
    (opened (MM m) (redOf (MM m))) (in0 m) (out0 m) (fun c => by iintro H; imodintro; iexact H)
    (fun _ => 0) ⟨fun c w s => mem_L' rfl (by decide), fun c w s => le_refl 0, fun c t g i h => above m c t g i h⟩
    (fun _ => iprop(emp)) (fun _ _ => rfl) (at_exit m)

end Cert.KernelIdeal.Gen

end
-- ==== Proof.Run.lean ====
module

public import proofs.«01_k».proof.Proof.Region

/-! # The run of @main on the mesh

From any memory with zero counters every device ends with its arguments as they were, its result holding what it assembled,
and every semaphore counter at zero. -/

@[expose] public section

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.SiteBlocks (L lv mem_L' mayWait_of)
open Idealize.ShloMosaic.TalkSites (Pay tallyL tallyL_pos Fam)

variable {F : FTy → Type} [FloatOps F] [Named F]

variable (m : (ℓ : Loc nD τ sig) → Buf (Elt F) ℓ) (ρ : Dev nD → PrngReg)

local notation "𝕄" => MT nD τ sig ℕ (Elt F) ℕ UU ℕ

open Idealize.ShloMosaic.Pipeline (Seg HostSeg RegionSeg)

/-! ## The launch -/

/-- The whole of the protocol's ghost state, given to one device. -/
def G (c : Dev nD) : sProp 𝕄 := if c = 0 then BI.own (ER (F := F) (launchOf Fm.S Fm.Sd Fm.T)) else BI.emp

theorem G_all : (bigSep Finset.univ G : sProp 𝕄) = BI.own (ER (F := F) (launchOf Fm.S Fm.Sd Fm.T)) := by
  rw [BI.bigSep_univ_at _ (0 : Dev nD), BI.bigSep_congr (Φ := G) (Ψ := fun _ => BI.emp) fun c hc => if_neg (Finset.ne_of_mem_erase hc), BI.bigSep_emp_const]
  exact (BI.equiv_iff.mp BI.sep_emp).trans (if_pos rfl)

theorem unscoped_eq : ∀ sm : SemLoc sig, sm.isScoped .tc = false → sm = .reg barrier0 := by decide

theorem unscopedSems_eq (c : Dev nD) : (unscopedSems0 c : sProp 𝕄) = semVal (barCell c) 0 := by
  show bigSep (Finset.univ.filter fun sm : SemLoc sig => ¬ sm.isScoped .tc) (fun sm => semVal ((c : Thread nD τ), sm) 0) = _
  rw [show (Finset.univ.filter fun sm : SemLoc sig => ¬ sm.isScoped .tc) = {SemLoc.reg barrier0} from by decide, BI.bigSep_singleton]

/-- Beside the buffers, what a device carries into the host operations, and out of the region. -/
def E (i : Fin 2) (c : Dev nD) : sProp 𝕄 := match i with
  | ⟨0, _⟩ => iprop(Tk (MM m) (redOf (MM m)) c ∗ (∃ W, owes (c : Thread nD τ) (O₀ c) W) ∗ ∃ r, prngReg c r)
  | ⟨_ + 1, _⟩ => iprop(semVal (barCell c) 0 ∗ ∃ W, owes (c : Thread nD τ) (0 : CellTallies nD τ sig ℕ) W)

theorem funded : iprop((bigSep Finset.univ fun c : Dev nD => iprop(semVal (barCell c) 0 ∗ Pipeline.launchCred O₀ c)) ∗ BI.own (ER (F := F) (launchOf Fm.S Fm.Sd Fm.T)))
    ⊢ (|={Set.univ}=> bigSep Finset.univ (Tk (MM m) (redOf (MM m))) : sProp 𝕄) := by
  have h := TalkSites.pass (A := URounds (GSem nD τ sig) (Fin 7)) (Es := Set.univ) O₀
    (Fm.funds (ER (F := F)) (Rd (MM m) (redOf (MM m))) (fun _ _ h => h) (fun _ => Finset.univ))
  unfold SiteBlocks.Funds at h
  simp only [zero_add] at h
  exact h

theorem launched : iprop((bigSep Finset.univ fun c : Dev nD => iprop(unscopedSems0 c ∗ owes (c : Thread nD τ) (O₀ c) ∅ ∗ Pipeline.launchCred O₀ c ∗ prngReg c (ρ c) ∗ G c)) ∗ levAts (L 4) lv)
    ⊢ (|={Set.univ}=> bigSep Finset.univ (E m 0) : sProp 𝕄) := by
  have h1 : (bigSep Finset.univ fun c : Dev nD => iprop(unscopedSems0 c ∗ owes (c : Thread nD τ) (O₀ c) ∅ ∗ Pipeline.launchCred O₀ c ∗ prngReg c (ρ c) ∗ G c))
      ⊢ (iprop((bigSep Finset.univ fun c : Dev nD => iprop(semVal (barCell c) 0 ∗ Pipeline.launchCred O₀ c)) ∗ (bigSep Finset.univ G)
        ∗ bigSep Finset.univ fun c : Dev nD => iprop((∃ W, owes (c : Thread nD τ) (O₀ c) W) ∗ ∃ r, prngReg c r)) : sProp 𝕄) := by
    rw [← bigSep_sep', ← bigSep_sep']
    refine bigSep_mono fun c _ => ?_
    rw [unscopedSems_eq]
    show (_ : sProp 𝕄) ⊢ _
    iintro ⟨Hs, HO, Hc, Hp, HG⟩
    isplitl [Hs Hc]; · isplitl [Hs] <;> iassumption
    isplitl [HG]; · iexact HG
    isplitl [HO]; · iexists ∅; iexact HO
    iexists (ρ c); iexact Hp
  have h2 : (bigSep Finset.univ (E m 0) : sProp 𝕄) = iprop(bigSep Finset.univ (Tk (MM m) (redOf (MM m)))
      ∗ bigSep Finset.univ fun c : Dev nD => iprop((∃ W, owes (c : Thread nD τ) (O₀ c) W) ∗ ∃ r, prngReg c r)) := by
    rw [← bigSep_sep']; rfl
  rw [h2]
  rw [G_all] at h1
  iintro ⟨H, -⟩
  ihave H' := h1 $$ H
  icases H' with ⟨Hs, HG, Ho⟩
  imod (funded m) $$ [Hs HG] with HT
  · isplitl [Hs] <;> iassumption
  imodintro
  isplitl [HT] <;> iassumption

/-! ## Into and out of the region -/

theorem split (c : Dev nD) (V : Valuation τ sig (Elt F)) : (StableHlo.held (c : Thread nD τ) (Pipeline.ucRefs τ sig) V : sProp 𝕄)
    = iprop(StableHlo.held (c : Thread nD τ) (Pipeline.arrRefs spec0) V ∗ StableHlo.held (c : Thread nD τ) rest V) :=
  StableHlo.held_sub_split (c : Thread nD τ) (Pipeline.arrRefs_sub_ucRefs spec0 (by decide)) V

theorem into (c : Dev nD) : iprop(StableHlo.held (c : Thread nD τ) (Pipeline.ucRefs τ sig) (V1 m c) ∗ E m 0 c) ⊢ ((reg m).pre c : sProp 𝕄) := by
  show _ ⊢ iprop(StableHlo.held (c : Thread nD τ) (Pipeline.arrRefs spec0) (V1 m c) ∗ (∃ r, prngReg c r)
    ∗ (StableHlo.held (c : Thread nD τ) rest (V1 m c) ∗ emp) ∗ Tk (MM m) (redOf (MM m)) c ∗ ∃ Wd, owes (c : Thread nD τ) (0 + O₀ c) Wd)
  rw [split, zero_add]
  show iprop(_ ∗ Tk (MM m) (redOf (MM m)) c ∗ (∃ W, owes (c : Thread nD τ) (O₀ c) W) ∗ ∃ r, prngReg c r) ⊢ _
  iintro ⟨⟨Ha, Hr⟩, HT, HO, Hp⟩
  isplitl [Ha]; · iexact Ha
  isplitl [Hp]; · iexact Hp
  isplitl [Hr]
  · isplitl [Hr]; · iexact Hr
    iempintro
  isplitl [HT] <;> iassumption

theorem outof (c : Dev nD) : ((reg m).post c : sProp 𝕄) ⊢ iprop((StableHlo.held (c : Thread nD τ) (Pipeline.ucRefs τ sig) (VE m c) ∗ semVal (barCell c) 0)
    ∗ ∃ W, owes (c : Thread nD τ) (0 : CellTallies nD τ sig ℕ) W) := by
  show iprop(StableHlo.held (c : Thread nD τ) (Pipeline.arrRefs spec0) (VE m c) ∗ (∃ r, prngReg c r)
    ∗ (StableHlo.held (c : Thread nD τ) rest (VE m c) ∗ emp) ∗ semVal (barCell c) 0 ∗ ∃ Wd, owes (c : Thread nD τ) (0 : CellTallies nD τ sig ℕ) Wd) ⊢ _
  rw [split]
  iintro ⟨Ha, -, ⟨Hr, -⟩, Hb, HO⟩
  isplitr [HO]
  · isplitr [Hb]
    · isplitl [Ha] <;> iassumption
    iexact Hb
  iexact HO

theorem VE_arg (c : Dev nD) (r : Ref sig .tc) (h : r ≠ main_v15) (h' : r ∉ hostOps0_W) : VE m c (Proc.devRef .tc r) = m ((c.tc : Thread nD τ).loc r) :=
  (VE_ne m c r h).trans ((V1_of m c r h').trans rfl)

theorem VE_out (c : Dev nD) : VE m c (Proc.devRef .tc main_v15) = OUT m c := (at_exit m c 5).symm.trans (final m c)

theorem mem_uc (r : Ref sig .tc) (h : ¬ (Proc.devRef .tc r : DevRef τ sig).isScoped) : (Proc.devRef .tc r : DevRef τ sig) ∈ Pipeline.ucRefs τ sig :=
  Finset.mem_filter.mpr ⟨StableHlo.devRef_mem_tcRefs r, h⟩

set_option backward.isDefEq.respectTransparency.types false in
/-- The run of @main on the mesh. -/
theorem run_main : θ_run defs (onTc (τ := τ) (main (F := F))) ⟨m, fun _ => 0, ρ⟩ (fun r => (∀ c : Dev nD,
      r.2.mem ((c.tc : Thread nD τ).loc main_v15) = OUT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) := by
  refine Pipeline.θ_run_regions_kit_dev_sems (pcfgs (F := F)) adm (pdats m) 0 cellOf_inj EP defs₀ 𝒱₀ (L 4) lv m ρ main
    (segs m 𝒱₀ (L 4) lv (E m) 0 (pdats m) (reg m))
    (fun c Kt => by
      rewrite [main_chain c, Seg.run_eq_chain,
        show (segs m 𝒱₀ (L 4) lv (E m) 0 (pdats m) (reg m) c).map Seg.prog = [
          StableHlo.seq (hostOps0 c),
          Prog.lift (.customCall (Pipeline.entry 0) ()) ] from rfl]
      dsimp (config := { failIfUnchanged := false }) only
      exact .rfl)
    (fun c => by simp only [segs, Seg.pipes_host, Seg.pipes_region, Seg.pipes_nil]; decide) O₀ (SiteBlocks.hL 4) G
    (initOf (Pipeline.cells cfgs cellOf_inj) (Pipeline.launchToks cfgs cellOf_inj), launchOf Fm.S Fm.Sd Fm.T)
    (by
      iintro Hu
      ihave H := (ownU_pair _ _) $$ Hu
      icases H with ⟨HP, HX⟩
      imodintro
      isplitl [HP]; · iexact HP
      rw [G_all]; iexact HX)
    (T₀ := fun c => iprop(StableHlo.held (c : Thread nD τ) (Pipeline.ucRefs τ sig) (V0 m c) ∗ E m 0 c))
    (Tₙ := fun c => iprop(StableHlo.held (c : Thread nD τ) (Pipeline.ucRefs τ sig) (VE m c) ∗ semVal (barCell c) 0))
    (hch := fun c => ⟨.rfl, into m c, outof m c⟩)
    (hinit := ?_) (QY := fun c s => (s.mem ((c.tc : Thread nD τ).loc main_v15) = OUT m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)) ∧ s.sem (barCell c) = 0)
    (hfin := fun c s' => ?_) (hQ := fun s h hs => ⟨fun c => (h c).1, sem_eq_zero hs fun c sm hsm => by
        obtain rfl := unscoped_eq sm hsm
        exact (h c).2⟩)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c)) : sProp 𝕄) := by
      rw [← bigSep_sep']
      exact bigSep_mono fun c _ => by rw [← Pipeline.unscopedBufs_held (Ix := ℕ) (Name := ℕ) (U := UU) (Lvl := ℕ) c (V0 m c)]; exact BI.Entails.refl _
    iintro ⟨H, Hla⟩
    ihave H' := hsplit $$ H
    icases H' with ⟨Hh, Hr⟩
    imod (launched m ρ) $$ [Hr Hla] with HE
    · isplitl [Hr]; · iexact Hr
      iexact Hla
    imodintro
    rw [bigSep_sep']
    isplitl [Hh]; · iexact Hh
    iexact HE
  · unfold StableHlo.held
    iintro ⟨⟨Hh, Hb⟩, HSI⟩
    icombine HSI Hb gives %hb
    ihave Hr := (pointsTo_read_all (Pipeline.ucRefs τ sig) (fun b => ((c : Thread nD τ).1, b)) (VE m c) s') $$ [Hh HSI]
    · isplitl [Hh] <;> iassumption
    icases Hr with ⟨%h, HSI⟩
    imodintro
    isplitr
    · ipureintro
      exact ⟨⟨(h _ (mem_uc main_v15 (by decide))).trans (VE_out m c),
        (h _ (mem_uc main_arg0 (by decide))).trans (VE_arg m c main_arg0 (by decide) (by decide)),
        (h _ (mem_uc main_arg1 (by decide))).trans (VE_arg m c main_arg1 (by decide) (by decide)),
        (h _ (mem_uc main_arg2 (by decide))).trans (VE_arg m c main_arg2 (by decide) (by decide)),
        (h _ (mem_uc main_arg3 (by decide))).trans (VE_arg m c main_arg3 (by decide) (by decide)),
        (h _ (mem_uc main_arg4 (by decide))).trans (VE_arg m c main_arg4 (by decide) (by decide))⟩, by simpa using hb⟩
    iexact HSI

/-- The frame: arguments unchanged, every counter back at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (run_main m ρ).mono fun _ h => ⟨fun c => (h.1 c).2, h.2⟩

end Cert.KernelIdeal.Gen

end
-- ==== Proof.Sum.lean ====
module

public import proofs.«01_k».proof.Proof.Values
public import Idealize.ShloMosaic.Lib.Pointwise

/-! # The devices' partial sums added

At the extended reals every device's result is the sum over the devices of their partial sums. -/

@[expose] public section

noncomputable section

namespace Cert.KernelIdeal.Gen

open Idealize.ShloMosaic

set_option maxRecDepth 16384

variable (M : Dev nD → C6 Ideal)

/-- Half `h` of the chunk of `c`, before the narrowing: its own rows and those of the seven others. -/
theorem sumH_apply (c : Dev nD) (h : Fin 2) (r : Fin 16) (n : Fin 512) :
    sumH M c h (ix2 r n) = M c (ix2 (row6 c (hrow h r)) n) + M (mi c 3) (ix2 (row6 c (hrow h r)) n) + M (mi c 0) (ix2 (row6 c (hrow h r)) n)
      + M (mi c 2) (ix2 (row6 c (hrow h r)) n) + M (mi c 4) (ix2 (row6 c (hrow h r)) n) + M (mi c 6) (ix2 (row6 c (hrow h r)) n)
      + M (mi c 5) (ix2 (row6 c (hrow h r)) n) + M (mi c 1) (ix2 (row6 c (hrow h r)) n) := by
  fin_cases h
  · show sumH M c 0 (ix2 r n) = _
    unfold sumH
    pointwise [k0_pay26, k0_pay25, k0_pay24, k0_pay23]
    rfl
  · show sumH M c 1 (ix2 r n) = _
    unfold sumH
    pointwise [k0_pay33, k0_pay32, k0_pay31, k0_pay30, k0_pay29]
    rfl

theorem redH_apply (c : Dev nD) (h : Fin 2) (r : Fin 16) (n : Fin 512) : redH M c h (ix2 r n) = sumH M c h (ix2 r n) := by
  fin_cases h
  · show redH M c 0 (ix2 r n) = sumH M c 0 (ix2 r n)
    unfold redH sumH
    pointwise [k0_pay27, k0_pay26]
  · show redH M c 1 (ix2 r n) = sumH M c 1 (ix2 r n)
    unfold redH sumH
    pointwise [k0_pay34, k0_pay33]

/-- The seven others and `c` itself are all the devices. -/
theorem sum_mi (c : Dev nD) (f : Dev nD → EReal) :
    f c + f (mi c 3) + f (mi c 0) + f (mi c 2) + f (mi c 4) + f (mi c 6) + f (mi c 5) + f (mi c 1) = ∑ d, f d := by
  have hs : (Finset.univ : Finset (Dev nD)) = {c, mi c 3, mi c 0, mi c 2, mi c 4, mi c 6, mi c 5, mi c 1} := by revert c; decide
  have e : ∑ d, f d = f c + (f (mi c 3) + (f (mi c 0) + (f (mi c 2) + (f (mi c 4) + (f (mi c 6) + (f (mi c 5) + f (mi c 1))))))) := by
    rw [hs, Finset.sum_insert (by revert c; decide), Finset.sum_insert (by revert c; decide), Finset.sum_insert (by revert c; decide),
      Finset.sum_insert (by revert c; decide), Finset.sum_insert (by revert c; decide), Finset.sum_insert (by revert c; decide),
      Finset.sum_insert (by revert c; decide), Finset.sum_singleton]
  rw [e]
  simp only [add_assoc]

theorem sumH_sum (c : Dev nD) (h : Fin 2) (r : Fin 16) (n : Fin 512) : sumH M c h (ix2 r n) = ∑ d, M d (ix2 (row6 c (hrow h r)) n) :=
  (sumH_apply M c h r n).trans (sum_mi c fun d => M d (ix2 (row6 c (hrow h r)) n))

/-- Row `128 b + i` of the partial sums, as the chunk, the half and the row in it. -/
theorem row6_chunk (b : Fin 2) (i : Fin 128) (n : Fin 512) :
    row6 (chunk (ix3 b i n)) (hrow (half (ix3 b i n)) (⟨i.val % 16, Nat.mod_lt _ (by decide)⟩ : Fin 16)) = (⟨128 * b.val + i.val, by omega⟩ : Fin 256) := by
  apply Fin.ext
  show 32 * (4 * b.val + i.val / 32) + (16 * (i.val % 32 / 16) + i.val % 16) = 128 * b.val + i.val
  omega

/-- Every device's result is the sum of the partial sums. -/
theorem GG_sum (c : Dev nD) (b : Fin 2) (i : Fin 128) (n : Fin 512) :
    GG M (redOf M) c (ix3 b i n) = ∑ d, M d (ix2 (⟨128 * b.val + i.val, by omega⟩ : Fin 256) n) := by
  have key : ∀ j h (r : Fin 16), GB M (redOf M) c j h (ix3 (0 : Fin 1) r n) = ∑ d, M d (ix2 (row6 j (hrow h r)) n) := by
    intro j h r
    unfold GB
    split
    · next e =>
      subst e
      rw [← sumH_sum]
      pointwise [k0_pay28]
    · rw [← sumH_sum, ← redH_apply]
      pointwise [k0_pay36]
      show redOf M j (ix2 (hrow h r) n) = _
      unfold redOf
      have e1 : (⟨(hrow h r).val / 16, by have := (hrow h r).isLt; omega⟩ : Fin 2) = h := Fin.ext (by show (16 * h.val + r.val) / 16 = _; omega)
      have e2 : (⟨(hrow h r).val % 16, Nat.mod_lt _ (by decide)⟩ : Fin 16) = r := Fin.ext (by show (16 * h.val + r.val) % 16 = _; omega)
      show redH M j ⟨(hrow h r).val / 16, _⟩ (ix2 (⟨(hrow h r).val % 16, _⟩ : Fin 16) n) = _
      rw [e1, e2]
  rw [← row6_chunk b i n]
  exact key _ _ _

end Cert.KernelIdeal.Gen

end
-- ==== Proof.Mine.lean ====
module

public import proofs.«01_k».proof.Proof.BodyA
public import Idealize.ShloMosaic.Lib.Pointwise
public import Idealize.ShloMosaic.Lib.Pointwise.IndexBridge

/-! # A device's partial product, read at an element

At the extended reals the eight heads' pieces of the body are one formula. -/

@[expose] public section

noncomputable section

namespace Cert.KernelIdeal.Gen

open Idealize.ShloMosaic

set_option maxRecDepth 16384

variable (q : FVec Ideal S256x256 .f32) (u : FVec Ideal S128x128 .f32) (kk vv : Vec Ideal S2x128x4x64 .f32)

/-- Row `i` of batch `b` among the 256 rows, and column `d` of head `h` among the 256 columns. -/
def rowOf (b : Fin 2) (i : Fin 128) : Fin 256 := ⟨128 * b.val + i.val, by omega⟩
@[inherit_doc rowOf] def colOf (h : Fin 4) (d : Fin 64) : Fin 256 := ⟨64 * h.val + d.val, by omega⟩

/-- The score of query `i` and key `j`, with `u` added to it. -/
def scoreK (b : Fin 2) (h : Fin 4) (i j : Fin 128) : EReal := ∑ d : Fin 64, q (ix2 (rowOf b i) (colOf h d)) * kk (ix4 b j h d) + u (ix2 i j)
/-- The values of a head weighted by the exponentials of the scores over their sum. -/
def ctxK (b : Fin 2) (h : Fin 4) (i : Fin 128) (d : Fin 64) : EReal :=
  ∑ j : Fin 128, Ideal.div (Ideal.exp (scoreK q u kk b h i j)) (∑ j' : Fin 128, Ideal.exp (scoreK q u kk b h i j')) * vv (ix4 b j h d)

variable (i : Fin 128) (d : Fin 64)

theorem head00 (p : IVec S128x128 32) (r : IVec S128x128 1) (s : IVec S128x128 32) (w : BitVec 32) (hu : k0_pay8 (F := Ideal) p r s w = u) :
    k0_pay9 q p r s w (hd kk 0 0) (hd vv 0 0) (ix2 i d) = ctxK q u kk vv 0 0 i d := by
  subst hu
  unfold ctxK scoreK rowOf colOf
  generalize hu : k0_pay8 (F := Ideal) p r s w = u
  pointwise [k0_pay9, hd, hu]
  rfl
theorem head01 : k0_pay12 u (k0_pay10 q) (k0_pay11 (hd kk 0 1)) (hd vv 0 1) (ix2 i d) = ctxK q u kk vv 0 1 i d := by
  unfold ctxK scoreK rowOf colOf
  pointwise [k0_pay12, k0_pay10, k0_pay11, hd]
  rfl
theorem head02 : k0_pay13 q u (hd kk 0 2) (hd vv 0 2) (ix2 i d) = ctxK q u kk vv 0 2 i d := by
  unfold ctxK scoreK rowOf colOf
  pointwise [k0_pay13, hd]
  rfl
theorem head10 : k0_pay18 q u (hd kk 1 0) (hd vv 1 0) (ix2 i d) = ctxK q u kk vv 1 0 i d := by
  unfold ctxK scoreK rowOf colOf
  pointwise [k0_pay18, hd]
  rfl
theorem head11 : k0_pay19 q u (hd kk 1 1) (hd vv 1 1) (ix2 i d) = ctxK q u kk vv 1 1 i d := by
  unfold ctxK scoreK rowOf colOf
  pointwise [k0_pay19, hd]
  rfl

/-- The first batch's four heads side by side. -/
theorem ctx0_apply (h : Fin 4) : ctx0 q kk vv (ix2 i (colOf h d)) = ctxK q maskV kk vv 0 h i d := by
  have h00 := head00 q maskV kk vv i d _ _ _ _ rfl
  have h01 := head01 q maskV kk vv i d
  have h02 := head02 q maskV kk vv i d
  have hd64 := d.isLt
  unfold ctx0
  fin_cases h
  · refine Eq.trans ?_ h00
    pointwise [k0_pay17, colOf]
  · refine Eq.trans ?_ h01
    pointwise [k0_pay17, colOf]
  · refine Eq.trans ?_ h02
    pointwise [k0_pay17, colOf]
    rw [dif_neg (by omega), dif_neg (by omega), dif_pos (by omega)]
    exact congrArg (fun t => k0_pay13 q maskV (hd kk 0 2) (hd vv 0 2) (ix2 i t)) (Fin.ext (by show 128 + d.val - 64 - 64 = d.val; omega))
  · show _ = ctxK q maskV kk vv 0 3 i d
    unfold ctxK scoreK rowOf colOf
    pointwise [k0_pay17, k0_pay14, k0_pay15, k0_pay16, hd]
    rw [dif_neg (by omega), dif_neg (by omega), dif_neg (by omega)]
    rw [show (⟨192 + d.val - 64 - 64 - 64, by omega⟩ : Fin 64) = d from Fin.ext (by show 192 + d.val - 64 - 64 - 64 = d.val; omega)]
    rfl

/-- A sum over `a` blocks of `b`. -/
theorem sum_blocks (a b : ℕ) (f : Fin (a * b) → EReal) (hb : ∀ (h : Fin a) (d : Fin b), b * h.val + d.val < a * b) :
    ∑ t, f t = ∑ h : Fin a, ∑ d : Fin b, f ⟨b * h.val + d.val, hb h d⟩ := by
  rw [← Equiv.sum_comp finProdFinEquiv f, Fintype.sum_prod_type]
  refine Finset.sum_congr rfl fun h _ => Finset.sum_congr rfl fun d _ => congrArg f (Fin.ext ?_)
  exact Nat.add_comm _ _

variable (x : Vec Ideal S2x128x512 .f32) (wq : Vec Ideal S512x256 .f32) (wo : Vec Ideal S256x512 .f32) (n : Fin 512)

/-- A device's partial product: its heads' weighted values, times its rows of the output projection. -/
theorem mineOf_apply (b : Fin 2) : mineOf x wq kk vv wo (ix2 (rowOf b i) n)
    = ∑ h : Fin 4, ∑ d : Fin 64, ctxK (k0_pay1 x wq) maskV kk vv b h i d * wo (ix2 (colOf h d) n) := by
  unfold mineOf
  generalize k0_pay1 x wq = q
  fin_cases b
  · show k0_pay22 (F := Ideal) _ _ _ _ _ _ _ _ _ _ _ (ix2 (rowOf 0 i) n) = ∑ h : Fin 4, ∑ d : Fin 64, ctxK q maskV kk vv 0 h i d * wo (ix2 (colOf h d) n)
    simp only [← ctx0_apply]
    rw [show rowOf 0 i = ⟨i.val, by omega⟩ from Fin.ext (by show 128 * 0 + i.val = i.val; omega)]
    refine Eq.trans ?_ (sum_blocks 4 64 (fun t => ctx0 q kk vv (ix2 i t) * wo (ix2 t n)) fun h d => by omega)
    pointwise [k0_pay22]
  · show k0_pay22 (F := Ideal) _ _ _ _ _ _ _ _ _ _ _ (ix2 (rowOf 1 i) n) = ∑ h : Fin 4, ∑ d : Fin 64, ctxK q maskV kk vv 1 h i d * wo (ix2 (colOf h d) n)
    rw [Fin.sum_univ_four]
    simp only [← head10, ← head11]
    unfold ctxK scoreK rowOf colOf
    pointwise [k0_pay22, k0_pay20, k0_pay21]
    refine (sum_blocks 4 64 _ (fun h d => by omega)).trans ?_
    rw [Fin.sum_univ_four]
    beta_reduce
    refine congrArg₂ (· + ·) (congrArg₂ (· + ·) (congrArg₂ (· + ·) ?_ ?_) ?_) ?_ <;> refine Finset.sum_congr rfl fun d _ => ?_
    · rw [dif_pos (by show 64 * 0 + d.val < 64; omega)]
      rw [show (⟨64 * (0 : Fin 4).val + d.val, by omega⟩ : Fin 64) = d from Fin.ext (by show 64 * 0 + d.val = d.val; omega)]
      rw [show (⟨64 * (0 : Fin 4).val + d.val, by omega⟩ : Fin 256) = ⟨d.val, by omega⟩ from Fin.ext (by show 64 * 0 + d.val = d.val; omega)]
    · rw [dif_neg (by show ¬ 64 * 1 + d.val < 64; omega), dif_pos (by show 64 * 1 + d.val - 64 < 64; omega)]
      rw [show (⟨64 * (1 : Fin 4).val + d.val - 64, by omega⟩ : Fin 64) = d from Fin.ext (by show 64 * 1 + d.val - 64 = d.val; omega)]
      rfl
    · rw [dif_neg (by show ¬ 64 * 2 + d.val < 64; omega), dif_neg (by show ¬ 64 * 2 + d.val - 64 < 64; omega),
        dif_pos (by show 64 * 2 + d.val - 64 - 64 < 64; omega)]
      rw [show (⟨64 * (2 : Fin 4).val + d.val - 64 - 64, by omega⟩ : Fin 64) = d from Fin.ext (by show 64 * 2 + d.val - 64 - 64 = d.val; omega)]
      rfl
    · rw [dif_neg (by show ¬ 64 * 3 + d.val < 64; omega), dif_neg (by show ¬ 64 * 3 + d.val - 64 < 64; omega),
        dif_neg (by show ¬ 64 * 3 + d.val - 64 - 64 < 64; omega)]
      rw [show (⟨64 * (3 : Fin 4).val + d.val - 64 - 64 - 64, by omega⟩ : Fin 64) = d from Fin.ext (by show 64 * 3 + d.val - 64 - 64 - 64 = d.val; omega)]
      rfl

end Cert.KernelIdeal.Gen
-- ==== Proof.Mask.lean ====
module

public import proofs.«01_k».proof.Proof.Mine

/-! # The mask of the scores, and the scaled queries -/

@[expose] public section

noncomputable section

namespace Cert.KernelIdeal.Gen

open Idealize.ShloMosaic

set_option maxRecDepth 16384

variable (i j : Fin 128)

theorem pay1_apply (x : Vec Ideal S2x128x512 .f32) (wq : Vec Ideal S512x256 .f32) (b : Fin 2) (t : Fin 256) :
    k0_pay1 x wq (ix2 (rowOf b i) t) = (∑ k : Fin 512, x (ix3 b i k) * wq (ix2 k t)) * Ideal.ofBits .f32 0x3E000000#32 := by
  have e1 : (⟨(rowOf b i).val / 128, by have := (rowOf b i).isLt; omega⟩ : Fin 2) = b := Fin.ext (by show (128 * b.val + i.val) / 128 = b.val; omega)
  have e2 : (⟨(rowOf b i).val % 128, by omega⟩ : Fin 128) = i := Fin.ext (by show (128 * b.val + i.val) % 128 = i.val; omega)
  pointwise [k0_pay1]
  simp only [e1, e2]

theorem pay4_apply : k0_pay4 k0_pay2 k0_pay3 (ix2 i j) = BitVec.ofNat 32 (i.val / 64) := by
  pointwise [k0_pay4, k0_pay2, k0_pay3]
  revert i
  decide

theorem pay5_apply : k0_pay5 (ix2 i j) = BitVec.ofNat 32 (j.val / 64) := by
  pointwise [k0_pay5]
  revert j
  decide
theorem pay6_apply : k0_pay6 k0_pay2 k0_pay3 (ix2 i j) = IntOp.cmpi .eq (BitVec.ofNat 32 (i.val / 64)) (BitVec.ofNat 32 (j.val / 64)) := by
  unfold k0_pay6
  pointwise [pay4_apply, pay5_apply]
theorem pay7_apply : k0_pay7 (ix2 i j) = BitVec.ofNat 32 (j.val / 64) := by
  pointwise [k0_pay7, pay5_apply]
  have hj : j.val / 64 < 2 := by omega
  generalize j.val / 64 = b at hj ⊢
  interval_cases b <;> decide

theorem select_one (c : BitVec 1) (h : c = 1#1) (x y : EReal) : Scalar.select c x y = x := by subst h; rfl
theorem select_zero (c : BitVec 1) (h : c = 0#1) (x y : EReal) : Scalar.select c x y = y := by subst h; rfl

/-- A key of another block of 64 is hidden. -/
theorem maskV_apply : maskV (F := Ideal) (ix2 i j) = if i.val / 64 = j.val / 64 then (0 : EReal) else ⊥ := by
  unfold maskV
  pointwise [k0_pay8, pay4_apply, pay6_apply, pay7_apply]
  have hi : i.val / 64 < 2 := by omega
  have hj : j.val / 64 < 2 := by omega
  generalize i.val / 64 = a at hi ⊢
  generalize j.val / 64 = b at hj ⊢
  have hm : (Named.named κ "mask" 0xCE6E6B28#32 : Ideal .f32) = (⊥ : EReal) := rfl
  rw [hm]
  interval_cases a <;> interval_cases b
  · exact select_one _ (by decide) _ _
  · exact select_zero _ (by decide) _ _
  · exact select_zero _ (by decide) _ _
  · exact select_one _ (by decide) _ _

end Cert.KernelIdeal.Gen
-- ==== Proof.Soft.lean ====
module

public import Idealize.ShloMosaic.Lib.Pointwise

/-! # Weights of finite scores

Exponentials over their sum are the same whether or not the largest score is taken off first. -/

@[expose] public section

noncomputable section

namespace Soft

open Idealize.ShloMosaic

variable {ι : Type} [Fintype ι]

theorem coe_sum (f : ι → ℝ) : ((∑ i, f i : ℝ) : EReal) = ∑ i, ((f i : ℝ) : EReal) := by
  classical
  refine Finset.induction_on (Finset.univ : Finset ι) (by simp) fun a s ha ih => ?_
  rw [Finset.sum_insert ha, Finset.sum_insert ha, EReal.coe_add, ih]

/-- The largest of the shown scores is a real. -/
theorem max_real (s : ι → ℝ) (p : ι → Prop) [DecidablePred p] (i : ι) (hi : p i) :
    ∃ r : ℝ, Finset.univ.fold max (⊥ : EReal) (fun k => if p k then ((s k : ℝ) : EReal) else ⊥) = (r : EReal) := by
  have h1 : Finset.univ.fold max (⊥ : EReal) (fun k => if p k then ((s k : ℝ) : EReal) else ⊥) < ⊤ :=
    (Finset.fold_max_lt ⊤).2 ⟨bot_lt_top, fun k _ => by
      show (if p k then ((s k : ℝ) : EReal) else ⊥) < ⊤
      split
      · exact EReal.coe_lt_top _
      · exact bot_lt_top⟩
  have h2 : ⊥ < Finset.univ.fold max (⊥ : EReal) (fun k => if p k then ((s k : ℝ) : EReal) else ⊥) :=
    (Finset.lt_fold_max ⊥).2 (Or.inr ⟨i, Finset.mem_univ i, by
      show ⊥ < (if p i then ((s i : ℝ) : EReal) else ⊥)
      rw [if_pos hi]; exact EReal.bot_lt_coe _⟩)
  exact ⟨_, (EReal.coe_toReal h1.ne h2.ne').symm⟩

/-- The weight of score `j`: with what hides a score added, and with the hidden scores at −∞ and the largest taken off. -/
theorem soft (s : ι → ℝ) (p : ι → Prop) [DecidablePred p] (i : ι) (hi : p i) (j : ι) :
    Ideal.div (Ideal.exp ((s j : EReal) + if p j then 0 else ⊥)) (∑ k, Ideal.exp ((s k : EReal) + if p k then 0 else ⊥))
      = Ideal.div
          (Ideal.exp ((if p j then (s j : EReal) else ⊥) - Finset.univ.fold max (⊥ : EReal) (fun k => if p k then ((s k : ℝ) : EReal) else ⊥)))
          (∑ k, Ideal.exp ((if p k then (s k : EReal) else ⊥) - Finset.univ.fold max (⊥ : EReal) (fun k => if p k then ((s k : ℝ) : EReal) else ⊥))) := by
  obtain ⟨r, hr⟩ := max_real s p i hi
  rw [hr]
  have e1 (k : ι) : Ideal.exp ((s k : EReal) + if p k then 0 else ⊥) = (((if p k then Real.exp (s k) else 0) : ℝ) : EReal) := by
    split <;> simp
  have e2 (k : ι) : Ideal.exp ((if p k then (s k : EReal) else ⊥) - (r : EReal)) = (((if p k then Real.exp (s k) else 0) * Real.exp (-r) : ℝ) : EReal) := by
    split
    · rw [← EReal.coe_sub, Ideal.exp_coe, sub_eq_add_neg, Real.exp_add]
    · simp
  simp only [e1, e2]
  rw [← coe_sum, ← coe_sum, ← Finset.sum_mul]
  have hs : 0 < ∑ k, (if p k then Real.exp (s k) else 0 : ℝ) :=
    Finset.sum_pos' (fun k _ => by split; exacts [(Real.exp_pos _).le, le_rfl]) ⟨i, Finset.mem_univ i, by rw [if_pos hi]; exact Real.exp_pos _⟩
  have hr' := Real.exp_pos (-r)
  rw [Ideal.div_coe hs.ne', Ideal.div_coe (mul_pos hs hr').ne', ← EReal.coe_mul, ← EReal.coe_mul]
  congr 1
  field_simp

/-- Real products and sums. -/
theorem coe_dot {f g : ι → EReal} (hf : ∀ i, ∃ r : ℝ, f i = r) (hg : ∀ i, ∃ r : ℝ, g i = r) : ∃ r : ℝ, ∑ i, f i * g i = r := by
  choose a ha using hf
  choose b hb using hg
  refine ⟨∑ i, a i * b i, ?_⟩
  rw [coe_sum]
  exact Finset.sum_congr rfl fun i _ => by rw [ha, hb, EReal.coe_mul]

/-- The scale may be taken of a query or of the score. -/
theorem dot_scale {q k : ι → EReal} (hq : ∀ i, ∃ r : ℝ, q i = r) (hk : ∀ i, ∃ r : ℝ, k i = r) (c : ℝ) :
    ∑ i, q i * (c : EReal) * k i = (∑ i, q i * k i) * (c : EReal) := by
  choose a ha using hq
  choose b hb using hk
  simp only [ha, hb]
  simp only [← EReal.coe_mul]
  rw [← coe_sum, ← coe_sum, ← EReal.coe_mul, Finset.sum_mul]
  congr 1
  exact Finset.sum_congr rfl fun i _ => by ring

theorem scale_eq : Ideal.ofBits .f32 0x3E000000#32 = ((1 / 8 : ℝ) : EReal) := by
  simp [Ideal.ofBits, Ideal.ieee]
  rw [← EReal.coe_mul]
  norm_num
theorem inf_eq : Ideal.ofBits .f32 0xFF800000#32 = ⊥ := by
  simp [Ideal.ofBits, Ideal.ieee]
theorem top_eq : Ideal.ofBits .f32 0x7F800000#32 = ⊤ := by
  simp [Ideal.ofBits, Ideal.ieee]

/-- What is less than ∞ in size is a real. -/
theorem real_of_abs {x : EReal} (h : (x ⊔ -x) < ⊤) : ∃ r : ℝ, x = r := by
  induction x with
  | bot => simp at h
  | top => simp at h
  | coe r => exact ⟨r, rfl⟩

end Soft
-- ==== Proof.Ref.lean ====
module

public import proofs.«01_k».proof.Proof.Gen.ReferenceIdeal.Run
public import proofs.«01_k».proof.Proof.Soft
public import Idealize.ShloMosaic.Lib.Pointwise

/-! # The reference, read at an element -/

@[expose] public section

noncomputable section

namespace Cert.ReferenceIdeal.Value

open Cert.ReferenceIdeal Cert.ReferenceIdeal.Gen Idealize.ShloMosaic Idealize.ShloMosaic.TcCoe

set_option maxRecDepth 16384

/-! ## The pieces -/

/-- The blocks of 64 that the positions lie in, as a vector, as a column and as a row. -/
def blk : IVec S128 32 :=
  select (andi (cmpi .ne (signi (iotaInDim S128 32 0)) (broadcastInDim S128 ![] bcast_S_S128 (signi (id (constantI S_ 32 64#32)))))
      (cmpi .ne (Host.remsi (iotaInDim S128 32 0) (broadcastInDim S128 ![] bcast_S_S128 (id (constantI S_ 32 64#32)))) (broadcastInDim S128 ![] bcast_S_S128 (constantI S_ 32 0#32))))
    (subi (Host.divsi (iotaInDim S128 32 0) (broadcastInDim S128 ![] bcast_S_S128 (id (constantI S_ 32 64#32)))) (broadcastInDim S128 ![] bcast_S_S128 (constantI S_ 32 1#32)))
    (Host.divsi (iotaInDim S128 32 0) (broadcastInDim S128 ![] bcast_S_S128 (id (constantI S_ 32 64#32))))
@[inherit_doc blk] def blkQ : IVec S128x1 32 := broadcastInDim S128x1 ![0] bcast_S128_S128x1_0 blk
@[inherit_doc blk] def blkK : IVec S1x128 32 := broadcastInDim S1x128 ![1] bcast_S128_S1x128_1 blk

/-- The divisor 4, and the remainders by it of the row and of the column. -/
def four : IVec S_ 32 := select (cmpi .eq (id (constantI S_ 32 4#32)) (constantI S_ 32 0#32)) (constantI S_ 32 1#32) (id (constantI S_ 32 4#32))
@[inherit_doc four] def remK : IVec S1x128 32 :=
  select (andi (cmpi .ne (cmpi .slt (Host.remsi blkK (broadcastInDim S1x128 ![] bcast_S_S1x128 four)) (broadcastInDim S1x128 ![] bcast_S_S1x128 (constantI S_ 32 0#32)))
        (broadcastInDim S1x128 ![] bcast_S_S1x128 (cmpi .slt four (constantI S_ 32 0#32))))
      (cmpi .ne (Host.remsi blkK (broadcastInDim S1x128 ![] bcast_S_S1x128 four)) (broadcastInDim S1x128 ![] bcast_S_S1x128 (constantI S_ 32 0#32))))
    (addi (Host.remsi blkK (broadcastInDim S1x128 ![] bcast_S_S1x128 four)) (broadcastInDim S1x128 ![] bcast_S_S1x128 four))
    (Host.remsi blkK (broadcastInDim S1x128 ![] bcast_S_S1x128 four))
@[inherit_doc four] def remQ : IVec S128x1 32 :=
  select (andi (cmpi .ne (cmpi .slt (Host.remsi blkQ (broadcastInDim S128x1 ![] bcast_S_S128x1 four)) (broadcastInDim S128x1 ![] bcast_S_S128x1 (constantI S_ 32 0#32)))
        (broadcastInDim S128x1 ![] bcast_S_S128x1 (cmpi .slt four (constantI S_ 32 0#32))))
      (cmpi .ne (Host.remsi blkQ (broadcastInDim S128x1 ![] bcast_S_S128x1 four)) (broadcastInDim S128x1 ![] bcast_S_S128x1 (constantI S_ 32 0#32))))
    (addi (Host.remsi blkQ (broadcastInDim S128x1 ![] bcast_S_S128x1 four)) (broadcastInDim S128x1 ![] bcast_S_S128x1 four))
    (Host.remsi blkQ (broadcastInDim S128x1 ![] bcast_S_S128x1 four))

/-- Which scores are shown, and which queries have a score that is. -/
def shown : IVec S128x128 1 :=
  ori (cmpi .eq (broadcastInDim S128x128 ![0, 1] bcast_S128x1_S128x128_0_1 blkQ) (broadcastInDim S128x128 ![0, 1] bcast_S1x128_S128x128_0_1 blkK))
    (cmpi .eq (broadcastInDim S128x128 ![0, 1] bcast_S1x128_S128x128_0_1 remK) (broadcastInDim S128x128 ![0, 1] bcast_S128x1_S128x128_0_1 remQ))
@[inherit_doc shown] def keep : IVec S128 1 := Host.reduce IntOp.ori shown (constantI S_ 1 0#1) reducesTo_S128x128_S128_d1 h_S_

variable (x : FVec Ideal S2x128x512 .f32) (wq : FVec Ideal S512x2048 .f32) (kk vv : FVec Ideal S2x128x32x64 .f32) (wo : FVec Ideal S2048x512 .f32)

/-- The queries, by head. -/
def qry : FVec Ideal S2x128x32x64 .f32 :=
  shapeCast _ (Host.dotGeneral dot_S2x128x512_S512x2048_S2x128x2048_2_0_01_1_n_n none x wq) shapeCasts_S2x128x2048_S2x128x32x64
/-- The scores, −∞ where they are hidden. -/
def scr : FVec Ideal S2x32x128x128 .f32 :=
  select (broadcastInDim S2x32x128x128 ![0, 1, 2, 3] bcast_S1x1x128x128_S2x32x128x128_0_1_2_3 (broadcastInDim S1x1x128x128 ![2, 3] bcast_S128x128_S1x1x128x128_2_3 shown))
    (mulf (Host.dotGeneral dot_S2x128x32x64_S2x128x32x64_S2x32x128x128_3_3_1_1_02_02 none (qry x wq) kk)
      (broadcastInDim S2x32x128x128 ![] bcast_S_S2x32x128x128 (constant S_ .f32 0x3E000000#32)))
    (broadcastInDim S2x32x128x128 ![] bcast_S_S2x32x128x128 (id (constant S_ .f32 0xFF800000#32)))
/-- Exponentials of the scores with the largest taken off. -/
def expo (t : FVec Ideal S2x32x128x128 .f32) : FVec Ideal S2x32x128x128 .f32 :=
  Host.exp (subf t (broadcastInDim S2x32x128x128 ![0, 1, 2, 3] bcast_S2x32x128x1_S2x32x128x128_0_1_2_3
    (broadcastInDim S2x32x128x1 ![0, 1, 2] bcast_S2x32x128_S2x32x128x1_0_1_2
      (Host.reduce FloatOps.maximumf t (constant S_ .f32 0xFF800000#32) reducesTo_S2x32x128x128_S2x32x128_d3 h_S_))))
/-- The weights. -/
def wgt (e : FVec Ideal S2x32x128x128 .f32) : FVec Ideal S2x32x128x128 .f32 :=
  select (broadcastInDim S2x32x128x128 ![0, 1, 2, 3] bcast_S1x1x128x1_S2x32x128x128_0_1_2_3 (broadcastInDim S1x1x128x1 ![2] bcast_S128_S1x1x128x1_2 keep))
    (Host.divf e (broadcastInDim S2x32x128x128 ![0, 1, 2, 3] bcast_S2x32x128x1_S2x32x128x128_0_1_2_3
      (select (broadcastInDim S2x32x128x1 ![0, 1, 2, 3] bcast_S1x1x128x1_S2x32x128x1_0_1_2_3 (broadcastInDim S1x1x128x1 ![2] bcast_S128_S1x1x128x1_2 keep))
        (broadcastInDim S2x32x128x1 ![0, 1, 2] bcast_S2x32x128_S2x32x128x1_0_1_2
          (Host.reduceAdd e (constant S_ .f32 0x00000000#32) reducesTo_S2x32x128x128_S2x32x128_d3 h_S_))
        (broadcastInDim S2x32x128x1 ![] bcast_S_S2x32x128x1 (id (constant S_ .f32 0x3F800000#32))))))
    (broadcastInDim S2x32x128x128 ![] bcast_S_S2x32x128x128 (id (constant S_ .f32 0x00000000#32)))
/-- The weighted values times the output projection. -/
def outp (w : FVec Ideal S2x32x128x128 .f32) : FVec Ideal S2x128x512 .f32 :=
  Host.dotGeneral dot_S2x128x2048_S2048x512_S2x128x512_2_0_01_1_n_n none
    (shapeCast _ (transpose S2x128x32x64 [0, 3, 1, 2] (Host.dotGeneral dot_S2x128x32x64_S2x32x128x128_S2x32x64x128_1_3_3_2_02_01 none vv w)
      transposes_S2x32x64x128_S2x128x32x64_0_3_1_2) shapeCasts_S2x128x32x64_S2x128x2048) wo

theorem res_eq (m : (ℓ : Loc nD τ sig) → Buf (Elt Ideal) ℓ) (c : Dev nD) : res_main_v39 (F := Ideal) m c
    = outp (m ((c.tc : Thread nD τ).loc main_arg3)) (m ((c.tc : Thread nD τ).loc main_arg4))
        (wgt (expo (scr (m ((c.tc : Thread nD τ).loc main_arg0)) (m ((c.tc : Thread nD τ).loc main_arg1)) (m ((c.tc : Thread nD τ).loc main_arg2))))) := rfl

/-! ## The mask -/

theorem blk_apply (i : Fin 128) : blk (ix1 i) = BitVec.ofNat 32 (i.val / 64) := by
  pointwise [blk]
  revert i
  decide
theorem remK_apply (i : Fin 128) : remK (ix2 0 i) = BitVec.ofNat 32 (i.val / 64) := by
  pointwise [remK, blkK, four, blk_apply]
  have hi : i.val / 64 < 2 := by omega
  generalize i.val / 64 = a at hi ⊢
  interval_cases a <;> decide
theorem remQ_apply (i : Fin 128) : remQ (ix2 i 0) = BitVec.ofNat 32 (i.val / 64) := by
  pointwise [remQ, blkQ, four, blk_apply]
  have hi : i.val / 64 < 2 := by omega
  generalize i.val / 64 = a at hi ⊢
  interval_cases a <;> decide
theorem shown_apply (i j : Fin 128) : shown (ix2 i j) = if i.val / 64 = j.val / 64 then 1#1 else 0#1 := by
  pointwise [shown, blkQ, blkK, blk_apply, remK_apply, remQ_apply]
  have hi : i.val / 64 < 2 := by omega
  have hj : j.val / 64 < 2 := by omega
  generalize i.val / 64 = a at hi ⊢
  generalize j.val / 64 = b at hj ⊢
  interval_cases a <;> interval_cases b <;> decide
theorem keep_apply (i : Fin 128) : keep (ix1 i) = 1#1 := by
  pointwise [keep]
  rw [← Finset.insert_erase (Finset.mem_univ i), Finset.fold_insert (Finset.notMem_erase i _), shown_apply, if_pos rfl]
  exact (by decide : ∀ y : BitVec 1, IntOp.ori 1#1 y = 1#1) _

/-! ## The values -/

variable (b : Fin 2) (h : Fin 32) (i j : Fin 128) (d : Fin 64) (n : Fin 512)

theorem qry_apply : qry x wq (ix4 b i h d) = ∑ k : Fin 512, x (ix3 b i k) * wq (ix2 k (⟨64 * h.val + d.val, by omega⟩ : Fin 2048)) := by
  pointwise [qry]
  rw [show (⟨h.val * 64 + d.val, by omega⟩ : Fin 2048) = ⟨64 * h.val + d.val, by omega⟩ from Fin.ext (by show h.val * 64 + d.val = 64 * h.val + d.val; omega)]
theorem scr_apply : scr x wq kk (ix4 b h i j)
    = if i.val / 64 = j.val / 64 then (∑ d : Fin 64, qry x wq (ix4 b i h d) * kk (ix4 b j h d)) * Ideal.ofBits .f32 0x3E000000#32 else (⊥ : EReal) := by
  pointwise [scr, shown_apply]
  split
  · rfl
  · exact Soft.inf_eq
theorem expo_apply (t : FVec Ideal S2x32x128x128 .f32) : expo t (ix4 b h i j) = Ideal.exp (t (ix4 b h i j) - Finset.univ.fold max (⊥ : EReal) fun k : Fin 128 => t (ix4 b h i k)) := by
  pointwise [expo]
  rw [Soft.inf_eq]
theorem wgt_apply (e : FVec Ideal S2x32x128x128 .f32) : wgt e (ix4 b h i j) = Ideal.div (e (ix4 b h i j)) (∑ k : Fin 128, e (ix4 b h i k)) := by
  pointwise [wgt, keep_apply]
theorem outp_apply (w : FVec Ideal S2x32x128x128 .f32) : outp vv wo w (ix3 b i n)
    = ∑ t : Fin 2048, (∑ j : Fin 128, w (ix4 b (⟨t.val / 64, by omega⟩ : Fin 32) i j) * vv (ix4 b j (⟨t.val / 64, by omega⟩ : Fin 32) (⟨t.val % 64, by omega⟩ : Fin 64))) * wo (ix2 t n) := by
  pointwise [outp]
  simp only [mul_comm (vv _)]

end Cert.ReferenceIdeal.Value
-- ==== Proof.Tie.lean ====
module

public import proofs.«01_k».proof.Proof.Mask
public import proofs.«01_k».proof.Proof.Ref

/-! # The devices' partial products add up to the reference -/

@[expose] public section

noncomputable section

namespace Cert.KernelIdeal.Gen

open Idealize.ShloMosaic
open Cert.ReferenceIdeal.Value (qry scr expo wgt outp qry_apply scr_apply expo_apply wgt_apply outp_apply)

set_option maxRecDepth 16384

variable (X : FVec Ideal S2x128x512 .f32) (WQ : FVec Ideal ⟨2, ![512, 2048]⟩ .f32) (K V : FVec Ideal S2x128x32x64 .f32) (WO : FVec Ideal ⟨2, ![2048, 512]⟩ .f32)

/-- Head `h` of device `c` among all the heads. -/
def headOf (c : Fin 8) (h : Fin 4) : Fin 32 := ⟨4 * c.val + h.val, by omega⟩

/-- What device `c` holds of the whole arrays: its heads' columns of the query projection, keys, values and rows of the output projection. -/
structure Local (c : Fin 8) (wq : Vec Ideal S512x256 .f32) (kk vv : Vec Ideal S2x128x4x64 .f32) (wo : Vec Ideal S256x512 .f32) : Prop where
  wq : ∀ (k : Fin 512) (h : Fin 4) (d : Fin 64), wq (ix2 k (colOf h d)) = WQ (ix2 k (⟨64 * (headOf c h).val + d.val, by have := (headOf c h).isLt; omega⟩ : Fin 2048))
  kk : ∀ (b : Fin 2) (j : Fin 128) (h : Fin 4) (d : Fin 64), kk (ix4 b j h d) = K (ix4 b j (headOf c h) d)
  vv : ∀ (b : Fin 2) (j : Fin 128) (h : Fin 4) (d : Fin 64), vv (ix4 b j h d) = V (ix4 b j (headOf c h) d)
  wo : ∀ (h : Fin 4) (d : Fin 64) (n : Fin 512), wo (ix2 (colOf h d) n) = WO (ix2 (⟨64 * (headOf c h).val + d.val, by have := (headOf c h).isLt; omega⟩ : Fin 2048) n)

variable {X WQ K V WO}
variable (hX : ∀ y, ∃ r : ℝ, X y = r) (hWQ : ∀ y, ∃ r : ℝ, WQ y = r) (hK : ∀ y, ∃ r : ℝ, K y = r)
include hX hWQ hK

/-- A head of a device is the reference's head. -/
theorem head_eq {c : Fin 8} {wq kk vv wo} (L : Local WQ K V WO c wq kk vv wo) (b : Fin 2) (h : Fin 4) (i : Fin 128) (d : Fin 64) :
    ctxK (k0_pay1 X wq) maskV kk vv b h i d = ∑ j : Fin 128, wgt (expo (scr X WQ K)) (ix4 b (headOf c h) i j) * V (ix4 b j (headOf c h) d) := by
  have hq (d : Fin 64) : ∃ r : ℝ, qry X WQ (ix4 b i (headOf c h) d) = r := by
    rw [qry_apply]
    exact Soft.coe_dot (fun k => hX _) fun k => hWQ _
  have hs (j : Fin 128) : ∃ r : ℝ, (∑ d : Fin 64, qry X WQ (ix4 b i (headOf c h) d) * K (ix4 b j (headOf c h) d)) * Ideal.ofBits .f32 0x3E000000#32 = r := by
    obtain ⟨r, hr⟩ := Soft.coe_dot hq fun d => hK (ix4 b j (headOf c h) d)
    exact ⟨r * (1 / 8), by rw [hr, Soft.scale_eq, EReal.coe_mul]⟩
  choose s hs using hs
  have h1 (j : Fin 128) : scoreK (k0_pay1 X wq) maskV kk b h i j = (s j : EReal) + if i.val / 64 = j.val / 64 then 0 else ⊥ := by
    unfold scoreK
    rw [maskV_apply, ← hs, Soft.scale_eq, ← Soft.dot_scale hq (fun d => hK _)]
    congr 1
    refine Finset.sum_congr rfl fun d _ => ?_
    rw [pay1_apply, L.kk, qry_apply, Soft.scale_eq]
    simp only [L.wq]
  have h2 (j : Fin 128) : scr X WQ K (ix4 b (headOf c h) i j) = if i.val / 64 = j.val / 64 then (s j : EReal) else ⊥ := by
    rw [scr_apply, hs]
  unfold ctxK
  refine Finset.sum_congr rfl fun j _ => ?_
  rw [L.vv, wgt_apply]
  simp only [expo_apply, h1, h2]
  rw [Soft.soft s (fun j => i.val / 64 = j.val / 64) i rfl j]

/-- All the partial products together. -/
theorem tie (wq : Fin 8 → Vec Ideal S512x256 .f32) (kk vv : Fin 8 → Vec Ideal S2x128x4x64 .f32) (wo : Fin 8 → Vec Ideal S256x512 .f32)
    (L : ∀ c, Local WQ K V WO c (wq c) (kk c) (vv c) (wo c)) (b : Fin 2) (i : Fin 128) (n : Fin 512) :
    ∑ c : Fin 8, mineOf X (wq c) (kk c) (vv c) (wo c) (ix2 (rowOf b i) n) = outp V WO (wgt (expo (scr X WQ K))) (ix3 b i n) := by
  rw [outp_apply]
  refine Eq.trans ?_ (sum_blocks 32 64 _ (fun h d => by omega)).symm
  refine Eq.trans ?_ (sum_blocks 8 4 _ (fun c h => by omega)).symm
  refine Finset.sum_congr rfl fun c _ => ?_
  refine (mineOf_apply _ _ _ _ _ _ _ _).trans ?_
  refine Finset.sum_congr rfl fun h _ => Finset.sum_congr rfl fun d _ => ?_
  rw [head_eq hX hWQ hK (L c), (L c).wo]
  have e1 : (⟨(64 * (4 * c.val + h.val) + d.val) / 64, by omega⟩ : Fin 32) = headOf c h := Fin.ext (by show _ / 64 = 4 * c.val + h.val; omega)
  have e2 : (⟨(64 * (4 * c.val + h.val) + d.val) % 64, by omega⟩ : Fin 64) = d := Fin.ext (by show _ % 64 = d.val; omega)
  simp only [e1, e2]
  rfl

end Cert.KernelIdeal.Gen
-- ==== Proof.Final.lean ====
module

public import proofs.«01_k».proof.Proof.Region
public import proofs.«01_k».proof.Proof.Sum
public import proofs.«01_k».proof.Proof.Tie
public import Idealize.ShloMosaic.Lib.DynamicIndex
public import Idealize.ShloMosaic.Lib.Layout
public import Idealize.ShloMosaic.Lib.StableHlo.RunClose

/-! # The result of every device is the reference's -/

@[expose] public section

noncomputable section

namespace Cert.KernelIdeal.Gen

open Idealize.ShloMosaic
open Idealize.ShloMosaic.TcCoe
open Idealize.ShloMosaic.StableHlo

set_option maxRecDepth 16384

variable (m : (ℓ : Loc nD τ sig) → Buf (Elt Ideal) ℓ)

/-- Four times the device's number, as the program computes it. -/
theorem start_eq (c : Dev nD) :
    muli (id (Host.remui (Host.divui (constantI S_ 32 (Dev.word c)) (constantI S_ 32 1#32)) (constantI S_ 32 8#32))) (constantI S_ 32 4#32)
      = constantI S_ 32 (BitVec.ofNat 32 (4 * c.val)) := by
  funext y
  show IntOp.muli (IntOp.remui .host (IntOp.divui .host (Dev.word c) 1#32) 8#32) 4#32 = BitVec.ofNat 32 (4 * c.val)
  revert c
  decide

/-- The slice of four heads. -/
theorem slice_heads (c : Dev nD) (x : FVec Ideal S2x128x32x64 .f32) (w : IVec S_ 32) (hw : w = constantI S_ 32 (BitVec.ofNat 32 (4 * c.val)))
    (b : Fin 2) (j : Fin 128) (h : Fin 4) (d : Fin 64) :
    Host.dynamicSlice S2x128x4x64 x
      (fun k => BitVec.toInt ((![constantI S_ 32 0#32, constantI S_ 32 0#32, select (cmpi .slt w (constantI S_ 32 0#32)) (addi w (constantI S_ 32 32#32)) w,
        constantI S_ 32 0#32] : Fin 4 → IVec S_ 32) k (Shape.Idx.first h_S_))) sliceFits_S2x128x32x64_S2x128x4x64 (ix4 b j h d)
      = x (ix4 b j (headOf c h) d) := by
  subst hw
  have hs : S2x128x32x64.Slices ![0, 0, 4 * c.val, 0] S2x128x4x64 := by revert c; decide
  have hc : c.val < 8 := c.isLt
  rw [Host.dynamicSlice_eq_extractStridedSlice _ _ _ ![0, 0, 4 * c.val, 0] _ hs (fun a => by
    match a with
    | ⟨0, _⟩ => rfl
    | ⟨1, _⟩ => rfl
    | ⟨2, _⟩ => exact toInt_wrap_ofNat (4 * c.val) (by omega)
    | ⟨3, _⟩ => rfl)]
  pointwise [headOf]

/-- The keys and the values that a device takes: those of its four heads. -/
theorem keys_eq (c : Dev nD) (b : Fin 2) (j : Fin 128) (h : Fin 4) (d : Fin 64) :
    V1 m c main_v9 (ix4 b j h d) = m ((c.tc : Thread nD τ).loc main_arg2) (ix4 b j (headOf c h) d) := by
  unfold V1
  after_results_simp_entrywise
  exact slice_heads c _ _ (start_eq c) b j h d
@[inherit_doc keys_eq] theorem vals_eq (c : Dev nD) (b : Fin 2) (j : Fin 128) (h : Fin 4) (d : Fin 64) :
    V1 m c main_v14 (ix4 b j h d) = m ((c.tc : Thread nD τ).loc main_arg3) (ix4 b j (headOf c h) d) := by
  unfold V1
  after_results_simp_entrywise
  exact slice_heads c _ _ (start_eq c) b j h d

variable (X : FVec Ideal S2x128x512 .f32) (WQ : FVec Ideal ⟨2, ![512, 2048]⟩ .f32) (K V : FVec Ideal S2x128x32x64 .f32) (WO : FVec Ideal ⟨2, ![2048, 512]⟩ .f32)

/-- What a device holds when its arguments are its parts of the whole arrays. -/
theorem local_of (c : Dev nD) (h1 : m ((c.tc : Thread nD τ).loc main_arg1) = Layout.block ⟨2, ![512, 256]⟩ ⟨2, ![512, 2048]⟩ 1 8 c WQ)
    (h2 : m ((c.tc : Thread nD τ).loc main_arg2) = K) (h3 : m ((c.tc : Thread nD τ).loc main_arg3) = V)
    (h4 : m ((c.tc : Thread nD τ).loc main_arg4) = Layout.block ⟨2, ![256, 512]⟩ ⟨2, ![2048, 512]⟩ 0 8 c WO) :
    Local WQ K V WO c (V1 m c main_arg1) (V1 m c main_v9) (V1 m c main_v14) (V1 m c main_arg4) where
  wq k h d := by
    rw [V1_of m c main_arg1 (by decide)]
    show m ((c.tc : Thread nD τ).loc main_arg1) _ = _
    rw [h1]
    refine congrArg WQ (funext fun a => Fin.ext ?_)
    match a with
    | ⟨0, _⟩ => rfl
    | ⟨1, _⟩ => show c.val * 256 + (64 * h.val + d.val) = 64 * (4 * c.val + h.val) + d.val; omega
  kk b j h d := by rw [keys_eq, h2]
  vv b j h d := by rw [vals_eq, h3]
  wo h d n := by
    rw [V1_of m c main_arg4 (by decide)]
    show m ((c.tc : Thread nD τ).loc main_arg4) _ = _
    rw [h4]
    refine congrArg WO (funext fun a => Fin.ext ?_)
    match a with
    | ⟨0, _⟩ => show c.val * 256 + (64 * h.val + d.val) = 64 * (4 * c.val + h.val) + d.val; omega
    | ⟨1, _⟩ => rfl

/-- Every column of the query projection is in some device's block. -/
theorem mem_block (y : (⟨2, ![512, 2048]⟩ : Shape).Idx) : ∃ (c : Dev nD) (z : S512x256.Idx),
    (by decide : Layout.Tiles ⟨2, ![512, 256]⟩ ⟨2, ![512, 2048]⟩ 1 8).idx c z = y := by
  have h1 : (y 1).val < 2048 := (y 1).isLt
  refine ⟨⟨(y 1).val / 256, by show _ < 8; omega⟩, ix2 (y 0) (⟨(y 1).val % 256, Nat.mod_lt _ (by decide)⟩ : Fin 256), funext fun a => Fin.ext ?_⟩
  match a with
  | ⟨0, _⟩ => rfl
  | ⟨1, _⟩ => show (y 1).val / 256 * 256 + (y 1).val % 256 = (y 1).val; omega

open Cert.ReferenceIdeal.Value (scr expo wgt outp)

/-- Every device's result is the reference's. -/
theorem out_eq (hX : ∀ y, ∃ r : ℝ, X y = r) (hWQ : ∀ y, ∃ r : ℝ, WQ y = r) (hK : ∀ y, ∃ r : ℝ, K y = r)
    (h0 : ∀ c : Dev nD, m ((c.tc : Thread nD τ).loc main_arg0) = X)
    (L : ∀ c : Dev nD, Local WQ K V WO c (V1 m c main_arg1) (V1 m c main_v9) (V1 m c main_v14) (V1 m c main_arg4)) (c : Dev nD) :
    OUT m c = outp V WO (wgt (expo (scr X WQ K))) := by
  funext y
  obtain ⟨b, i, n, rfl⟩ : ∃ (b : Fin 2) (i : Fin 128) (n : Fin 512), y = ix3 b i n := ⟨y 0, y 1, y 2, eq_ix3 y⟩
  unfold OUT
  refine (GG_sum (MM m) c b i n).trans ?_
  refine Eq.trans ?_ (tie hX hWQ hK _ _ _ _ L b i n)
  refine Finset.sum_congr rfl fun d _ => ?_
  unfold MM
  rw [show V1 m d main_arg0 = X from (V1_of m d main_arg0 (by decide)).trans (h0 d)]
  rfl

end Cert.KernelIdeal.Gen
-- ==== Proof.Finite.lean ====
module

public import proofs.«01_k».proof.Pre_finite_KernelIdeal
public import proofs.«01_k».proof.Pre_finite_ReferenceIdeal
public import proofs.«01_k».proof.Proof.Soft
public import Idealize.ShloMosaic.Lib.ReduceAll

/-! # The precondition: queries' factors and keys are finite -/

@[expose] public section

noncomputable section

open Idealize.ShloMosaic

namespace Cert.Pre_finite_KernelIdeal

instance facts : Facts where
  bcast_S_S2x128x512 := by decide
  reducesTo_S2x128x512_S_d0_1_2 := by decide
  h_S_ := by decide
  bcast_S_S512x256 := by decide
  reducesTo_S512x256_S_d0_1 := by decide
  bcast_S_S2x128x32x64 := by decide
  reducesTo_S2x128x32x64_S_d0_1_2_3 := by decide

instance : Subsingleton S_.Idx := ⟨fun a b => funext fun k => k.elim0⟩

theorem and_one {a b : BitVec 1} (h : IntOp.andi a b = 1#1) : a = 1#1 ∧ b = 1#1 := by revert a b; decide

theorem real_of_olt {s : Shape} (x : FVec Ideal s .f32) (hb : S_.BroadcastsInDim s (![] : Fin 0 → Fin s.rank)) (y : s.Idx)
    (h : cmpf .olt (Host.absf x) (broadcastInDim s ![] hb (constant S_ .f32 0x7F800000#32)) y = 1#1) : ∃ r : ℝ, x y = r := by
  refine Soft.real_of_abs ?_
  have h' : BitVec.ofBool (decide (max (x y) (-(x y)) < Ideal.ofBits .f32 0x7F800000#32)) = 1#1 := h
  rw [Soft.top_eq] at h'
  by_contra hn
  rw [show decide (max (x y) (-(x y)) < (⊤ : EReal)) = false from decide_eq_false hn] at h'
  exact absurd h' (by decide)

/-- Where the precondition holds, x, Wq and K_ext hold reals. -/
theorem real_of_fn (x : FVec Ideal S2x128x512 .f32) (wq : FVec Ideal S512x256 .f32) (k v : FVec Ideal S2x128x32x64 .f32) (wo : FVec Ideal S256x512 .f32)
    (h : fn x wq k v wo = fun _ => 1#1) :
    (∀ y, ∃ r : ℝ, x y = r) ∧ (∀ y, ∃ r : ℝ, wq y = r) ∧ ∀ y, ∃ r : ℝ, k y = r := by
  have h0 := congrFun h (Shape.Idx.first Facts.h_S_)
  obtain ⟨h1, h2⟩ := and_one h0
  obtain ⟨h3, h4⟩ := and_one h1
  exact ⟨fun y => real_of_olt x _ y (Host.reduce_andi_all _ _ _ _ _ h3 y), fun y => real_of_olt wq _ y (Host.reduce_andi_all _ _ _ _ _ h4 y),
    fun y => real_of_olt k _ y (Host.reduce_andi_all _ _ _ _ _ h2 y)⟩

end Cert.Pre_finite_KernelIdeal

namespace Cert.Pre_finite_ReferenceIdeal

instance facts : Facts where
  bcast_S_S2x128x512 := by decide
  reducesTo_S2x128x512_S_d0_1_2 := by decide
  h_S_ := by decide
  bcast_S_S512x2048 := by decide
  reducesTo_S512x2048_S_d0_1 := by decide
  bcast_S_S2x128x32x64 := by decide
  reducesTo_S2x128x32x64_S_d0_1_2_3 := by decide

end Cert.Pre_finite_ReferenceIdeal
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Run
public import proofs.«01_k».proof.Proof.Final
public import proofs.«01_k».proof.Proof.Finite
public import proofs.«01_k».proof.Proof.Twin.Run
public import Idealize.ShloMosaic.Adequacy
public import Idealize.ShloMosaic.Init

@[expose] public section

noncomputable section

namespace Cert.Proof

open Idealize.ShloMosaic Idealize.SL.Sem Cert.Kernel

/-! ## The frames -/

theorem quiescent_k : Cert.quiescent_Kernel (hKernel := Cert.Kernel.Gen.facts) := fun m ρ _ => Cert.Kernel.Gen.frame_main (F := Bits) m ρ

theorem quiescent_i : Cert.quiescent_KernelIdeal (hKernelIdeal := Cert.KernelIdeal.Gen.facts) :=
  fun m ρ _ => Cert.KernelIdeal.Gen.frame_main (F := Ideal) m ρ

/-- The reference's run, read at its arguments; it declares no semaphore. -/
theorem quiescent_r : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem quiescent_i_pre : Cert.quiescent_KernelIdeal_pre_finite_KernelIdeal (hKernelIdeal := Cert.KernelIdeal.Gen.facts)
    (hPre_finite_KernelIdeal := Cert.Pre_finite_KernelIdeal.facts) := fun m ρ _ => quiescent_i m ρ trivial

theorem quiescent_r_pre : Cert.quiescent_ReferenceIdeal_pre_finite_ReferenceIdeal (hReferenceIdeal := Cert.ReferenceIdeal.Gen.facts)
    (hPre_finite_ReferenceIdeal := Cert.Pre_finite_ReferenceIdeal.facts) := fun m ρ _ => quiescent_r m ρ trivial

/-! ## The value -/

/-- Both run, and every device's result is the reference's. -/
theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := Cert.Pre_finite_KernelIdeal.facts) := by
  intro m g m' g' hp hm
  have hr (c : Dev Cert.KernelIdeal.nD) := Cert.Pre_finite_KernelIdeal.real_of_fn _ _ _ _ _ (hp c)
  refine ⟨Cert.ReferenceIdeal.Value.res_main_v39 (F := Ideal) m' 0,
    (θ_run Cert.KernelIdeal.defs _ _).mono (fun r h c => ⟨(h.1 c).1.trans ?_, (h.1 c).2⟩) (Cert.KernelIdeal.Gen.run_main (F := Ideal) m g),
    (θ_run Cert.ReferenceIdeal.defs _ _).mono (fun r h => h 0) (Cert.ReferenceIdeal.Value.run (F := Ideal) m' g')⟩
  rw [Cert.ReferenceIdeal.Value.res_eq]
  refine Cert.KernelIdeal.Gen.out_eq m _ _ _ _ _ ?_ ?_ ?_ (fun d => (hm d).1)
    (fun d => Cert.KernelIdeal.Gen.local_of m _ _ _ _ d (hm d).2.1 (hm d).2.2.1 (hm d).2.2.2.1 (hm d).2.2.2.2) c
  · intro y
    have h := (hr 0).1 y
    rwa [(hm 0).1] at h
  · intro y
    obtain ⟨d, z, hz⟩ := Cert.KernelIdeal.Gen.mem_block y
    have h := (hr d).2.1 z
    rw [(hm d).2.1] at h
    exact hz ▸ h
  · intro y
    have h := (hr 0).2.2 y
    rwa [(hm 0).2.2.1] at h

theorem claim : Cert.Claim := ⟨Cert.Kernel.Gen.facts, Cert.KernelIdeal.Gen.facts, Cert.ReferenceIdeal.Gen.facts,
  Cert.Pre_finite_KernelIdeal.facts, Cert.Pre_finite_ReferenceIdeal.facts,
  quiescent_k, quiescent_i, quiescent_i_pre, quiescent_r, quiescent_r_pre,
  IdealRules.named_const.statement Cert.KernelIdeal.κ "mask" .f32 0xCE6E6B28#32 ⊥ rfl, algebraic⟩

end Cert.Proof

end
